-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S8192x32 : Shape := ⟨2, ![8192, 32]⟩
abbrev S512x512 : Shape := ⟨2, ![512, 512]⟩
abbrev S512 : Shape := ⟨1, ![512]⟩
abbrev S7x512x256 : Shape := ⟨3, ![7, 512, 256]⟩
abbrev S7x256 : Shape := ⟨2, ![7, 256]⟩
abbrev S7x256x128 : Shape := ⟨3, ![7, 256, 128]⟩
abbrev S7x128 : Shape := ⟨2, ![7, 128]⟩
abbrev S7x128x96 : Shape := ⟨3, ![7, 128, 96]⟩
abbrev S7x96 : Shape := ⟨2, ![7, 96]⟩
abbrev S1x512 : Shape := ⟨2, ![1, 512]⟩
abbrev S8192x96x32 : Shape := ⟨3, ![8192, 96, 32]⟩
abbrev S64x512 : Shape := ⟨2, ![64, 512]⟩
abbrev S64x32 : Shape := ⟨2, ![64, 32]⟩
abbrev S64x96x32 : Shape := ⟨3, ![64, 96, 32]⟩
abbrev S1x512x256 : Shape := ⟨3, ![1, 512, 256]⟩
abbrev S512x256 : Shape := ⟨2, ![512, 256]⟩
abbrev S64x256 : Shape := ⟨2, ![64, 256]⟩
abbrev S1x256 : Shape := ⟨2, ![1, 256]⟩
abbrev S1x256x128 : Shape := ⟨3, ![1, 256, 128]⟩
abbrev S256x128 : Shape := ⟨2, ![256, 128]⟩
abbrev S64x128 : Shape := ⟨2, ![64, 128]⟩
abbrev S1x128 : Shape := ⟨2, ![1, 128]⟩
abbrev S1x128x96 : Shape := ⟨3, ![1, 128, 96]⟩
abbrev S128x96 : Shape := ⟨2, ![128, 96]⟩
abbrev S64x96 : Shape := ⟨2, ![64, 96]⟩
abbrev S1x96 : Shape := ⟨2, ![1, 96]⟩
abbrev S64x31 : Shape := ⟨2, ![64, 31]⟩
abbrev S64x1 : Shape := ⟨2, ![64, 1]⟩
abbrev S64x30 : Shape := ⟨2, ![64, 30]⟩
abbrev S64x2 : Shape := ⟨2, ![64, 2]⟩
abbrev S64x28 : Shape := ⟨2, ![64, 28]⟩
abbrev S64x4 : Shape := ⟨2, ![64, 4]⟩
abbrev S64x24 : Shape := ⟨2, ![64, 24]⟩
abbrev S64x8 : Shape := ⟨2, ![64, 8]⟩
abbrev S64x16 : Shape := ⟨2, ![64, 16]⟩
abbrev S16x32x96 : Shape := ⟨3, ![16, 32, 96]⟩
abbrev S16x32 : Shape := ⟨2, ![16, 32]⟩
abbrev S16x32x1 : Shape := ⟨3, ![16, 32, 1]⟩
abbrev S16x96 : Shape := ⟨2, ![16, 96]⟩
abbrev S16x1x96 : Shape := ⟨3, ![16, 1, 96]⟩
abbrev S16x96x32 : Shape := ⟨3, ![16, 96, 32]⟩

abbrev nBuf : Space → Nat
  | .hbm => 12
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x32, .f32⟩
  | .hbm, ⟨2, _⟩ => ⟨S512x512, .f32⟩
  | .hbm, ⟨3, _⟩ => ⟨S512, .f32⟩
  | .hbm, ⟨4, _⟩ => ⟨S7x512x256, .f32⟩
  | .hbm, ⟨5, _⟩ => ⟨S7x256, .f32⟩
  | .hbm, ⟨6, _⟩ => ⟨S7x256x128, .f32⟩
  | .hbm, ⟨7, _⟩ => ⟨S7x128, .f32⟩
  | .hbm, ⟨8, _⟩ => ⟨S7x128x96, .f32⟩
  | .hbm, ⟨9, _⟩ => ⟨S7x96, .f32⟩
  | .hbm, ⟨10, _⟩ => ⟨S1x512, .f32⟩
  | .hbm, ⟨11, _⟩ => ⟨S8192x96x32, .f32⟩
  | .local _ .vmem, ⟨0, _⟩ => ⟨S64x512, .f32⟩
  | .local _ .vmem, ⟨1, _⟩ => ⟨S64x512, .f32⟩
  | .local _ .vmem, ⟨2, _⟩ => ⟨S64x32, .f32⟩
  | .local _ .vmem, ⟨3, _⟩ => ⟨S64x32, .f32⟩
  | .local _ .vmem, ⟨4, _⟩ => ⟨S512x512, .f32⟩
  | .local _ .vmem, ⟨5, _⟩ => ⟨S1x512, .f32⟩
  | .local _ .vmem, ⟨6, _⟩ => ⟨S7x512x256, .f32⟩
  | .local _ .vmem, ⟨7, _⟩ => ⟨S7x256, .f32⟩
  | .local _ .vmem, ⟨8, _⟩ => ⟨S7x256x128, .f32⟩
  | .local _ .vmem, ⟨9, _⟩ => ⟨S7x128, .f32⟩
  | .local _ .vmem, ⟨10, _⟩ => ⟨S7x128x96, .f32⟩
  | .local _ .vmem, ⟨11, _⟩ => ⟨S7x96, .f32⟩
  | .local _ .vmem, ⟨12, _⟩ => ⟨S64x96x32, .f32⟩
  | .local _ .vmem, ⟨13, _⟩ => ⟨S64x96x32, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S7x128x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S7x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x96x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x512 : Shape := ⟨2, ![8192, 512]⟩
abbrev S8192x32 : Shape := ⟨2, ![8192, 32]⟩
abbrev S512x512 : Shape := ⟨2, ![512, 512]⟩
abbrev S512 : Shape := ⟨1, ![512]⟩
abbrev S7x512x256 : Shape := ⟨3, ![7, 512, 256]⟩
abbrev S7x256 : Shape := ⟨2, ![7, 256]⟩
abbrev S7x256x128 : Shape := ⟨3, ![7, 256, 128]⟩
abbrev S7x128 : Shape := ⟨2, ![7, 128]⟩
abbrev S7x128x96 : Shape := ⟨3, ![7, 128, 96]⟩
abbrev S7x96 : Shape := ⟨2, ![7, 96]⟩
abbrev S7 : Shape := ⟨1, ![7]⟩
abbrev S1x512 : Shape := ⟨2, ![1, 512]⟩
abbrev S8192x7x256 : Shape := ⟨3, ![8192, 7, 256]⟩
abbrev S1x7x256 : Shape := ⟨3, ![1, 7, 256]⟩
abbrev S_ : Shape := ⟨0, ![]⟩
abbrev S7x128x8192 : Shape := ⟨3, ![7, 128, 8192]⟩
abbrev S8192x7x128 : Shape := ⟨3, ![8192, 7, 128]⟩
abbrev S1x7x128 : Shape := ⟨3, ![1, 7, 128]⟩
abbrev S7x96x8192 : Shape := ⟨3, ![7, 96, 8192]⟩
abbrev S8192x7x96 : Shape := ⟨3, ![8192, 7, 96]⟩
abbrev S1x7x96 : Shape := ⟨3, ![1, 7, 96]⟩
abbrev S8192x96x7 : Shape := ⟨3, ![8192, 96, 7]⟩
abbrev S1x1x7 : Shape := ⟨3, ![1, 1, 7]⟩
abbrev S8192x32x1 : Shape := ⟨3, ![8192, 32, 1]⟩
abbrev S8192x32x7 : Shape := ⟨3, ![8192, 32, 7]⟩
abbrev S8192x1x32 : Shape := ⟨3, ![8192, 1, 32]⟩
abbrev S1 : Shape := ⟨1, ![1]⟩
abbrev S1x1x1 : Shape := ⟨3, ![1, 1, 1]⟩
abbrev S8192x96x32 : Shape := ⟨3, ![8192, 96, 32]⟩
abbrev S8192x96x1 : Shape := ⟨3, ![8192, 96, 1]⟩

abbrev nBuf : Space → Nat
  | .hbm => 157
  | .vmem => 0
  | .smem => 0
  | _ => 0

abbrev hbmTy0_0 (i : Nat) : BufTy := match i % 128 with
  | 0 => ⟨S8192x512, .f32⟩
  | 1 => ⟨S8192x32, .f32⟩
  | 2 => ⟨S512x512, .f32⟩
  | 3 => ⟨S512, .f32⟩
  | 4 => ⟨S7x512x256, .f32⟩
  | 5 => ⟨S7x256, .f32⟩
  | 6 => ⟨S7x256x128, .f32⟩
  | 7 => ⟨S7x128, .f32⟩
  | 8 => ⟨S7x128x96, .f32⟩
  | 9 => ⟨S7x96, .f32⟩
  | 10 => ⟨S7, .f32⟩
  | 11 => ⟨S8192x512, .f32⟩
  | 12 => ⟨S1x512, .f32⟩
  | 13 => ⟨S8192x512, .f32⟩
  | 14 => ⟨S8192x512, .f32⟩
  | 15 => ⟨S8192x7x256, .f32⟩
  | 16 => ⟨S1x7x256, .f32⟩
  | 17 => ⟨S8192x7x256, .f32⟩
  | 18 => ⟨S8192x7x256, .f32⟩
  | 19 => ⟨S_, .f32⟩
  | 20 => ⟨S8192x7x256, .f32⟩
  | 21 => ⟨S8192x7x256, .f32⟩
  | 22 => ⟨S7x128x8192, .f32⟩
  | 23 => ⟨S8192x7x128, .f32⟩
  | 24 => ⟨S1x7x128, .f32⟩
  | 25 => ⟨S8192x7x128, .f32⟩
  | 26 => ⟨S8192x7x128, .f32⟩
  | 27 => ⟨S_, .f32⟩
  | 28 => ⟨S8192x7x128, .f32⟩
  | 29 => ⟨S8192x7x128, .f32⟩
  | 30 => ⟨S7x96x8192, .f32⟩
  | 31 => ⟨S8192x7x96, .f32⟩
  | 32 => ⟨S1x7x96, .f32⟩
  | 33 => ⟨S8192x7x96, .f32⟩
  | 34 => ⟨S8192x7x96, .f32⟩
  | 35 => ⟨S8192x96x7, .f32⟩
  | 36 => ⟨S8192x96x7, .f32⟩
  | 37 => ⟨S1x1x7, .f32⟩
  | 38 => ⟨S8192x32x1, .f32⟩
  | 39 => ⟨S8192x32x7, .f32⟩
  | 40 => ⟨S8192x32x7, .f32⟩
  | 41 => ⟨S8192x32x7, .i1⟩
  | 42 => ⟨S8192x32x7, .i32⟩
  | 43 => ⟨S_, .i32⟩
  | 44 => ⟨S8192x32, .i32⟩
  | 45 => ⟨S_, .i32⟩
  | 46 => ⟨S_, .i32⟩
  | 47 => ⟨S_, .i32⟩
  | 48 => ⟨S8192x32, .i32⟩
  | 49 => ⟨S8192x32, .i32⟩
  | 50 => ⟨S_, .i32⟩
  | 51 => ⟨S8192x32, .i32⟩
  | 52 => ⟨S8192x32, .i32⟩
  | 53 => ⟨S_, .i32⟩
  | 54 => ⟨S8192x32, .i32⟩
  | 55 => ⟨S8192x32, .i32⟩
  | 56 => ⟨S_, .i32⟩
  | 57 => ⟨S8192x32, .i32⟩
  | 58 => ⟨S8192x32, .i1⟩
  | 59 => ⟨S_, .i32⟩
  | 60 => ⟨S8192x32, .i32⟩
  | 61 => ⟨S8192x32, .i32⟩
  | 62 => ⟨S8192x32, .i32⟩
  | 63 => ⟨S8192x32x1, .i32⟩
  | 64 => ⟨S8192x32, .f32⟩
  | 65 => ⟨S_, .i32⟩
  | 66 => ⟨S8192x32, .i32⟩
  | 67 => ⟨S8192x32, .i1⟩
  | 68 => ⟨S_, .i32⟩
  | 69 => ⟨S8192x32, .i32⟩
  | 70 => ⟨S8192x32, .i32⟩
  | 71 => ⟨S8192x32, .i32⟩
  | 72 => ⟨S8192x32x1, .i32⟩
  | 73 => ⟨S8192x32, .f32⟩
  | 74 => ⟨S8192x32, .f32⟩
  | 75 => ⟨S8192x32, .f32⟩
  | 76 => ⟨S_, .f32⟩
  | 77 => ⟨S8192x32, .f32⟩
  | 78 => ⟨S8192x32, .f32⟩
  | 79 => ⟨S8192x32, .f32⟩
  | 80 => ⟨S8192x1x32, .i32⟩
  | 81 => ⟨S_, .i32⟩
  | 82 => ⟨S8192x1x32, .i32⟩
  | 83 => ⟨S8192x1x32, .i1⟩
  | 84 => ⟨S_, .i32⟩
  | 85 => ⟨S8192x1x32, .i32⟩
  | 86 => ⟨S8192x1x32, .i32⟩
  | 87 => ⟨S8192x1x32, .i32⟩
  | 88 => ⟨S8192x32x1, .i32⟩
  | 89 => ⟨S1, .i32⟩
  | 90 => ⟨S_, .i32⟩
  | 91 => ⟨S8192x32x1, .i32⟩
  | 92 => ⟨S8192x32x1, .i1⟩
  | 93 => ⟨S1x1x1, .i32⟩
  | 94 => ⟨S8192x32x1, .i32⟩
  | 95 => ⟨S8192x32x1, .i1⟩
  | 96 => ⟨S8192x32x1, .i1⟩
  | 97 => ⟨S_, .i1⟩
  | 98 => ⟨S8192x32, .i1⟩
  | 99 => ⟨S8192x96x32, .f32⟩
  | 100 => ⟨S8192x96x32, .i1⟩
  | 101 => ⟨S_, .f32⟩
  | 102 => ⟨S8192x96x32, .f32⟩
  | 103 => ⟨S8192x96x32, .f32⟩
  | 104 => ⟨S8192x1x32, .i32⟩
  | 105 => ⟨S_, .i32⟩
  | 106 => ⟨S8192x1x32, .i32⟩
  | 107 => ⟨S8192x1x32, .i1⟩
  | 108 => ⟨S_, .i32⟩
  | 109 => ⟨S8192x1x32, .i32⟩
  | 110 => ⟨S8192x1x32, .i32⟩
  | 111 => ⟨S8192x1x32, .i32⟩
  | 112 => ⟨S8192x32x1, .i32⟩
  | 113 => ⟨S1, .i32⟩
  | 114 => ⟨S_, .i32⟩
  | 115 => ⟨S8192x32x1, .i32⟩
  | 116 => ⟨S8192x32x1, .i1⟩
  | 117 => ⟨S1x1x1, .i32⟩
  | 118 => ⟨S8192x32x1, .i32⟩
  | 119 => ⟨S8192x32x1, .i1⟩
  | 120 => ⟨S8192x32x1, .i1⟩
  | 121 => ⟨S_, .i1⟩
  | 122 => ⟨S8192x32, .i1⟩
  | 123 => ⟨S8192x96x32, .f32⟩
  | 124 => ⟨S8192x96x32, .i1⟩
  | 125 => ⟨S_, .f32⟩
  | 126 => ⟨S8192x96x32, .f32⟩
  | 127 => ⟨S8192x96x32, .f32⟩
  | _ => ⟨S8192x512, .f32⟩

abbrev hbmTy0_1 (i : Nat) : BufTy := match i % 128 with
  | 0 => ⟨S_, .f32⟩
  | 1 => ⟨S8192x32, .f32⟩
  | 2 => ⟨S8192x32, .f32⟩
  | 3 => ⟨S8192x1x32, .f32⟩
  | 4 => ⟨S8192x96x32, .f32⟩
  | 5 => ⟨S8192x96x32, .f32⟩
  | 6 => ⟨S8192x1x32, .f32⟩
  | 7 => ⟨S8192x96x32, .f32⟩
  | 8 => ⟨S8192x96x32, .f32⟩
  | 9 => ⟨S8192x96x32, .f32⟩
  | 10 => ⟨S1, .f32⟩
  | 11 => ⟨S_, .f32⟩
  | 12 => ⟨S8192x32, .f32⟩
  | 13 => ⟨S8192x32, .i1⟩
  | 14 => ⟨S8192x1x32, .i1⟩
  | 15 => ⟨S8192x96x1, .f32⟩
  | 16 => ⟨S8192x96x32, .i1⟩
  | 17 => ⟨S8192x96x32, .f32⟩
  | 18 => ⟨S8192x96x32, .f32⟩
  | 19 => ⟨S1, .f32⟩
  | 20 => ⟨S_, .f32⟩
  | 21 => ⟨S8192x32, .f32⟩
  | 22 => ⟨S8192x32, .i1⟩
  | 23 => ⟨S8192x1x32, .i1⟩
  | 24 => ⟨S8192x96x1, .f32⟩
  | 25 => ⟨S8192x96x32, .i1⟩
  | 26 => ⟨S8192x96x32, .f32⟩
  | 27 => ⟨S8192x96x32, .f32⟩
  | 28 => ⟨S8192x96x32, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_cst : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call1_cst : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_c_0 : Ref sig .tc := ⟨.hbm, 45, rfl⟩
abbrev main_c_1 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v29 : Ref sig .tc := ⟨.hbm, 52, rfl⟩
abbrev main_c_2 : Ref sig .tc := ⟨.hbm, 53, rfl⟩
abbrev main_v30 : Ref sig .tc := ⟨.hbm, 54, rfl⟩
abbrev main_v31 : Ref sig .tc := ⟨.hbm, 55, rfl⟩
abbrev main_c_3 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call4_c : Ref sig .tc := ⟨.hbm, 81, rfl⟩
abbrev main_call4_v0 : Ref sig .tc := ⟨.hbm, 82, rfl⟩
abbrev main_call4_v1 : Ref sig .tc := ⟨.hbm, 83, rfl⟩
abbrev main_call4_c_0 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_call4_v5 : Ref sig .tc := ⟨.hbm, 88, rfl⟩
abbrev main_call4_c_1 : Ref sig .tc := ⟨.hbm, 89, rfl⟩
abbrev main_call4_c_2 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_c_3 : Ref sig .tc := ⟨.hbm, 97, rfl⟩
abbrev main_call4_v12 : Ref sig .tc := ⟨.hbm, 98, rfl⟩
abbrev main_call4_v13 : Ref sig .tc := ⟨.hbm, 99, rfl⟩
abbrev main_call4_v14 : Ref sig .tc := ⟨.hbm, 100, rfl⟩
abbrev main_call4_cst : Ref sig .tc := ⟨.hbm, 101, rfl⟩
abbrev main_call4_v15 : Ref sig .tc := ⟨.hbm, 102, rfl⟩
abbrev main_v52 : Ref sig .tc := ⟨.hbm, 103, rfl⟩
abbrev main_v53 : Ref sig .tc := ⟨.hbm, 104, rfl⟩
abbrev main_call5_c : Ref sig .tc := ⟨.hbm, 105, rfl⟩
abbrev main_call5_v0 : Ref sig .tc := ⟨.hbm, 106, rfl⟩
abbrev main_call5_v1 : Ref sig .tc := ⟨.hbm, 107, rfl⟩
abbrev main_call5_c_0 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_v5 : Ref sig .tc := ⟨.hbm, 112, rfl⟩
abbrev main_call5_c_1 : Ref sig .tc := ⟨.hbm, 113, rfl⟩
abbrev main_call5_c_2 : Ref sig .tc := ⟨.hbm, 114, rfl⟩
abbrev main_call5_v6 : Ref sig .tc := ⟨.hbm, 115, rfl⟩
abbrev main_call5_v7 : Ref sig .tc := ⟨.hbm, 116, rfl⟩
abbrev main_call5_v8 : Ref sig .tc := ⟨.hbm, 117, rfl⟩
abbrev main_call5_v9 : Ref sig .tc := ⟨.hbm, 118, rfl⟩
abbrev main_call5_v10 : Ref sig .tc := ⟨.hbm, 119, rfl⟩
abbrev main_call5_v11 : Ref sig .tc := ⟨.hbm, 120, rfl⟩
abbrev main_call5_c_3 : Ref sig .tc := ⟨.hbm, 121, rfl⟩
abbrev main_call5_v12 : Ref sig .tc := ⟨.hbm, 122, rfl⟩
abbrev main_call5_v13 : Ref sig .tc := ⟨.hbm, 123, rfl⟩
abbrev main_call5_v14 : Ref sig .tc := ⟨.hbm, 124, rfl⟩
abbrev main_call5_cst : Ref sig .tc := ⟨.hbm, 125, rfl⟩
abbrev main_call5_v15 : Ref sig .tc := ⟨.hbm, 126, rfl⟩
abbrev main_v54 : Ref sig .tc := ⟨.hbm, 127, rfl⟩
abbrev main_cst_8 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_call6_v0 : Ref sig .tc := ⟨.hbm, 144, rfl⟩
abbrev main_call6_v1 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_call7_v0 : Ref sig .tc := ⟨.hbm, 153, rfl⟩
abbrev main_call7_v1 : Ref sig .tc := ⟨.hbm, 154, rfl⟩
abbrev main_v77 : Ref sig .tc := ⟨.hbm, 155, rfl⟩
abbrev main_v78 : Ref sig .tc := ⟨.hbm, 156, rfl⟩

abbrev nD : Nat := 1
abbrev τ : Topo := Topo.v7x

variable {F : FTy → Type} [FloatOps F]
-- ==== Proof.SortFiber.lean ====
/-
  SORTING A FIBER. Two ascending rearrangements of the same values are equal, a sort along an axis holds on every fiber the
  ascending rearrangement of that fiber, and sorting commutes with a monotone function.
-/
module

public import Idealize.ShloMosaic.Lib.SortFacts
public import Mathlib.Data.Fintype.Card
public import Mathlib.Order.Monotone.Basic
public import Mathlib.Data.List.OfFn
public import Mathlib.GroupTheory.Perm.List

@[expose] public section

noncomputable section

namespace Cert.SortFiber

open Idealize.ShloMosaic

variable {n : Nat} {α β : Type} [LinearOrder α] [LinearOrder β]

/-- `v` is the ascending rearrangement of `u`. -/
def IsSortOf (v u : Fin n → α) : Prop := Monotone v ∧ ∃ σ : Equiv.Perm (Fin n), v = u ∘ σ

/-- Two ascending rearrangements of the same values are equal. -/
theorem IsSortOf.unique {v w u : Fin n → α} (hv : IsSortOf v u) (hw : IsSortOf w u) : v = w := by
  obtain ⟨mv, σ, rfl⟩ := hv
  obtain ⟨mw, τ, rfl⟩ := hw
  have hp : (List.ofFn (u ∘ σ)).Perm (List.ofFn (u ∘ τ)) :=
    (Equiv.Perm.ofFn_comp_perm σ u).trans (Equiv.Perm.ofFn_comp_perm τ u).symm
  have h := List.Perm.eq_of_pairwise (le := fun a b : α => a ≤ b) (fun _ _ _ _ h1 h2 => le_antisymm h1 h2)
    (List.pairwise_ofFn.mpr fun _ _ hij => mv (le_of_lt hij)) (List.pairwise_ofFn.mpr fun _ _ hij => mw (le_of_lt hij)) hp
  exact List.ofFn_injective h

/-- A monotone function of the ascending rearrangement is the ascending rearrangement of the function's values. -/
theorem IsSortOf.map {v u : Fin n → α} (h : IsSortOf v u) {f : α → β} (hf : Monotone f) : IsSortOf (f ∘ v) (f ∘ u) := by
  obtain ⟨mv, σ, rfl⟩ := h
  exact ⟨hf.comp mv, σ, rfl⟩

/-- The stable sort of a fiber's positions by "strictly less" reads the fiber in ascending order. -/
theorem isSortOf_sortedFrom (u : Fin n → α) (before : Fin n → Fin n → Bool) (hb : ∀ k k', before k k' = decide (u k < u k')) :
    IsSortOf (fun k => u (sortedFrom before k)) u := by
  have hbij : Function.Bijective (sortedFrom before) := ⟨sortedFrom_injective before, sortedFrom_surjective before⟩
  refine ⟨fun i j hij => ?_, Equiv.ofBijective _ hbij, rfl⟩
  rcases eq_or_lt_of_le hij with rfl | hlt
  · exact le_rfl
  · have h := sortedFrom_noInversion before before
      (fun a b h => by rw [hb] at h ⊢; exact decide_eq_false (not_lt.mpr (le_of_lt (of_decide_eq_true h))))
      (fun a b h => h)
      (fun a b c h1 h2 => by
        rw [hb] at h1 h2 ⊢
        exact decide_eq_false (not_lt.mpr ((not_lt.mp (of_decide_eq_false h2)).trans (not_lt.mp (of_decide_eq_false h1)))))
      i j hlt
    rw [hb] at h
    exact not_lt.mp (of_decide_eq_false h)

end Cert.SortFiber

end
-- ==== Proof.LaneSort.lean ====
/-
  THE KERNEL'S SORT OF A BLOCK OF QUERIES. The block's 32 lanes go through fifteen stages of compare and exchange, each written with
  two rotations, three selects, a minimum and a maximum. Every stage is one stage of the bitonic network on every row
  (`laneStage_row`), so the fifteen together leave every row sorted (`sortedBlock_isSortOf`).
-/
module

public import proofs.«01_k».proof.Proof.Gen.KernelIdeal.Frame
public import proofs.«01_k».proof.Proof.SortFiber
public import Idealize.ShloMosaic.Lib.Pointwise
public import Idealize.ShloMosaic.Lib.SortNet.Sorts

@[expose] public section

noncomputable section

namespace Cert.LaneSort

open Idealize.ShloMosaic Idealize.ShloMosaic.SortNet Cert.KernelIdeal Cert.KernelIdeal.Gen Cert.SortFiber

/-- The side conditions of cutting 32 lanes into `d` and `e` and joining them again in the other order. -/
structure Cut (d e : Nat) : Prop where
  high : S64x32.Slices ![0, d] ⟨2, ![64, e]⟩
  front : S64x32.Slices ![0, 0] ⟨2, ![64, d]⟩
  left : Shape.Concatenates [⟨2, ![64, e]⟩, ⟨2, ![64, d]⟩] S64x32 1
  back : S64x32.Slices ![0, e] ⟨2, ![64, d]⟩
  low : S64x32.Slices ![0, 0] ⟨2, ![64, e]⟩
  right : Shape.Concatenates [⟨2, ![64, d]⟩, ⟨2, ![64, e]⟩] S64x32 1

/-- The lanes whose number has none of the bits `b`. -/
def clearLanes (b : BitVec 32) : IVec S64x32 1 :=
  cmpi .eq (andi (iota .tc S64x32 32 [1] iota_S64x32_d1_w32) (broadcast S64x32 b)) (broadcast S64x32 0#32)

/-- Lane `t` of the result is lane `t + d` of `v`, cyclically. -/
def rollLeft (d e : Nat) (h : Cut d e) (v : FVec Ideal S64x32 .f32) : FVec Ideal S64x32 .f32 :=
  concatenate S64x32 1 [⟨⟨2, ![64, e]⟩, extractStridedSlice ⟨2, ![64, e]⟩ ![0, d] v h.high⟩,
    ⟨⟨2, ![64, d]⟩, extractStridedSlice ⟨2, ![64, d]⟩ ![0, 0] v h.front⟩] h.left

/-- Lane `t` of the result is lane `t - d` of `v`, cyclically. -/
def rollRight (d e : Nat) (h : Cut d e) (v : FVec Ideal S64x32 .f32) : FVec Ideal S64x32 .f32 :=
  concatenate S64x32 1 [⟨⟨2, ![64, d]⟩, extractStridedSlice ⟨2, ![64, d]⟩ ![0, e] v h.back⟩,
    ⟨⟨2, ![64, e]⟩, extractStridedSlice ⟨2, ![64, e]⟩ ![0, 0] v h.low⟩] h.right

/-- One stage: distance `d` (as a word, `db`), blocks alternating in direction with the bit `kb` of the lane number. -/
def laneStage (kb db : BitVec 32) (d e : Nat) (h : Cut d e) (v : FVec Ideal S64x32 .f32) : FVec Ideal S64x32 .f32 :=
  select (xori (xori (clearLanes kb) (clearLanes db)) (constantI S64x32 1 1#1))
    (minimumf v (select (clearLanes db) (rollLeft d e h v) (rollRight d e h v)))
    (maximumf v (select (clearLanes db) (rollLeft d e h v) (rollRight d e h v)))

/-- The shapes of a rotation by 1 lane fit together. -/
theorem cut1 : Cut 1 31 := ⟨by decide, by decide, by decide, by decide, by decide, by decide⟩
/-- The shapes of a rotation by 2 lanes fit together. -/
theorem cut2 : Cut 2 30 := ⟨by decide, by decide, by decide, by decide, by decide, by decide⟩
/-- The shapes of a rotation by 4 lanes fit together. -/
theorem cut4 : Cut 4 28 := ⟨by decide, by decide, by decide, by decide, by decide, by decide⟩
/-- The shapes of a rotation by 8 lanes fit together. -/
theorem cut8 : Cut 8 24 := ⟨by decide, by decide, by decide, by decide, by decide, by decide⟩
/-- The shapes of a rotation by 16 lanes fit together. -/
theorem cut16 : Cut 16 16 := ⟨by decide, by decide, by decide, by decide, by decide, by decide⟩

/-- The five last stages, of the final merge of all 32 lanes. -/
def merge32 (v : FVec Ideal S64x32 .f32) : FVec Ideal S64x32 .f32 :=
  laneStage 32#32 1#32 1 31 cut1 (laneStage 32#32 2#32 2 30 cut2 (laneStage 32#32 4#32 4 28 cut4
    (laneStage 32#32 8#32 8 24 cut8 (laneStage 32#32 16#32 16 16 cut16 v))))

/-- The four stages that merge within blocks of 16 lanes. -/
def merge16 (v : FVec Ideal S64x32 .f32) : FVec Ideal S64x32 .f32 :=
  laneStage 16#32 1#32 1 31 cut1 (laneStage 16#32 2#32 2 30 cut2 (laneStage 16#32 4#32 4 28 cut4
    (laneStage 16#32 8#32 8 24 cut8 v)))

/-- The three stages that merge within blocks of 8 lanes. -/
def merge8 (v : FVec Ideal S64x32 .f32) : FVec Ideal S64x32 .f32 :=
  laneStage 8#32 1#32 1 31 cut1 (laneStage 8#32 2#32 2 30 cut2 (laneStage 8#32 4#32 4 28 cut4 v))

/-- The two stages that merge within blocks of 4 lanes. -/
def merge4 (v : FVec Ideal S64x32 .f32) : FVec Ideal S64x32 .f32 :=
  laneStage 4#32 1#32 1 31 cut1 (laneStage 4#32 2#32 2 30 cut2 v)

/-- The stage that orders pairs of lanes. -/
def merge2 (v : FVec Ideal S64x32 .f32) : FVec Ideal S64x32 .f32 := laneStage 2#32 1#32 1 31 cut1 v

/-- The whole sort of a block. -/
def sortedBlock (v : FVec Ideal S64x32 .f32) : FVec Ideal S64x32 .f32 := merge32 (merge16 (merge8 (merge4 (merge2 v))))

section payloads

variable (x0 : Vec Ideal S64x512 .f32) (x1 : Vec Ideal S64x32 .f32) (x2 : Vec Ideal S512x512 .f32) (x3 : Vec Ideal S1x512 .f32)
  (x4 : Vec Ideal S7x512x256 .f32) (x5 : Vec Ideal S7x256 .f32) (x6 : Vec Ideal S7x256x128 .f32) (x7 : Vec Ideal S7x128 .f32)
  (x8 : Vec Ideal S7x128x96 .f32) (x9 : Vec Ideal S7x96 .f32)

/-- The first five stages. -/
theorem pay130_eq : k0_pay130 x0 x1 x2 x3 x4 x5 x6 x7 x8 x9
    = laneStage 8#32 2#32 2 30 cut2 (laneStage 8#32 4#32 4 28 cut4 (merge4 (merge2 (View.ld x1 r0_45)))) := rfl

/-- The first seven stages. -/
theorem pay131_eq : k0_pay131 x0 x1 x2 x3 x4 x5 x6 x7 x8 x9
    = laneStage 16#32 8#32 8 24 cut8 (merge8 (merge4 (merge2 (View.ld x1 r0_45)))) := by
  have e : k0_pay131 x0 x1 x2 x3 x4 x5 x6 x7 x8 x9 = laneStage 16#32 8#32 8 24 cut8
      (laneStage 8#32 1#32 1 31 cut1 (k0_pay130 x0 x1 x2 x3 x4 x5 x6 x7 x8 x9)) := rfl
  rw [e, pay130_eq]
  rfl

/-- The first twelve stages. -/
theorem pay135_eq : k0_pay135 x0 x1 x2 x3 x4 x5 x6 x7 x8 x9
    = laneStage 32#32 8#32 8 24 cut8 (laneStage 32#32 16#32 16 16 cut16
        (merge16 (merge8 (merge4 (merge2 (View.ld x1 r0_45)))))) := by
  have e : k0_pay135 x0 x1 x2 x3 x4 x5 x6 x7 x8 x9 = laneStage 32#32 8#32 8 24 cut8 (laneStage 32#32 16#32 16 16 cut16
      (laneStage 16#32 1#32 1 31 cut1 (laneStage 16#32 2#32 2 30 cut2 (laneStage 16#32 4#32 4 28 cut4
        (k0_pay131 x0 x1 x2 x3 x4 x5 x6 x7 x8 x9))))) := rfl
  rw [e, pay131_eq]
  rfl

/-- All fifteen stages. -/
theorem pay142_eq : k0_pay142 x0 x1 x2 x3 x4 x5 x6 x7 x8 x9 = sortedBlock (View.ld x1 r0_45) := by
  have e : k0_pay142 x0 x1 x2 x3 x4 x5 x6 x7 x8 x9 = laneStage 32#32 1#32 1 31 cut1 (laneStage 32#32 2#32 2 30 cut2
      (laneStage 32#32 4#32 4 28 cut4 (k0_pay135 x0 x1 x2 x3 x4 x5 x6 x7 x8 x9))) := rfl
  rw [e, pay135_eq]
  rfl

end payloads

/-- The mask of the lanes without the bits `b`, at one lane. -/
theorem clearLanes_apply (b : BitVec 32) (r : Fin 64) (t : Fin 32) :
    clearLanes b (ix2 r t) = if BitVec.ofNat 32 t.val &&& b = 0#32 then 1#1 else 0#1 := by
  pointwise [clearLanes]
  show BitVec.ofBool (BitVec.ofNat 32 t.val &&& b == 0#32) = _
  by_cases h : BitVec.ofNat 32 t.val &&& b = 0#32
  · rw [if_pos h, h]
    rfl
  · rw [if_neg h, beq_eq_false_iff_ne.2 h]
    rfl

/-- Rotating to the left reads `d` lanes further on. -/
theorem rollLeft_apply (d e : Nat) (h : Cut d e) (v : FVec Ideal S64x32 .f32) (r : Fin 64) (t u : Fin 32) (hu : u.val = t.val + d)
    (hd : d + e = 32) : rollLeft d e h v (ix2 r t) = v (ix2 r u) := by
  pointwise [rollLeft]
  have ht : t.val < e := by have := u.isLt; omega
  rw [dif_pos ht]
  exact congrArg v (congrArg₂ ix2 (Fin.ext rfl) (Fin.ext ((Nat.add_comm _ _).trans hu.symm)))

/-- Rotating to the right reads `d` lanes further back. -/
theorem rollRight_apply (d e : Nat) (h : Cut d e) (v : FVec Ideal S64x32 .f32) (r : Fin 64) (t u : Fin 32) (hu : t.val = u.val + d) :
    rollRight d e h v (ix2 r t) = v (ix2 r u) := by
  pointwise [rollRight]
  have ht : ¬ t.val < d := by omega
  rw [dif_neg ht]
  refine congrArg v (congrArg₂ ix2 (Fin.ext rfl) (Fin.ext ?_))
  show t.val - d = u.val
  omega

/-- A lane and its partner at distance `2 ^ s` lie in the same block of `2 ^ (l + 1)` lanes, and exactly one of them is the lower
one: where one keeps the smaller value the other keeps the greater. -/
theorem keep_partner : ∀ l s : Fin 5, s ≤ l → ∀ j : Fin 32,
    (decide ((partner 5 s.val j).val &&& 2 ^ (l.val + 1) = 0) == decide ((partner 5 s.val j).val &&& 2 ^ s.val = 0))
      = !(decide (j.val &&& 2 ^ (l.val + 1) = 0) == decide (j.val &&& 2 ^ s.val = 0)) := by
  decide +kernel

/-- The network's stage at distance `2 ^ s` of the merge within blocks of `2 ^ (l + 1)` lanes. -/
def netStage (l s : Fin 5) : Network (2 ^ 5) := stage 5 s.val fun i => decide (i.val &&& 2 ^ (l.val + 1) = 0) == false

/-- One printed stage is one stage of the network, on every row. -/
theorem laneStage_row (l s : Fin 5) (hsl : s ≤ l) (kb db : BitVec 32) (e : Nat) (h : Cut (2 ^ s.val) e) (hd : 2 ^ s.val + e = 32)
    (hk : ∀ t : Fin 32, (BitVec.ofNat 32 t.val &&& kb = 0#32) ↔ t.val &&& 2 ^ (l.val + 1) = 0)
    (hb : ∀ t : Fin 32, (BitVec.ofNat 32 t.val &&& db = 0#32) ↔ t.val &&& 2 ^ s.val = 0)
    (v : FVec Ideal S64x32 .f32) (r : Fin 64) :
    (fun t : Fin 32 => laneStage kb db (2 ^ s.val) e h v (ix2 r t))
      = Network.apply (netStage l s) (fun t : Fin 32 => v (ix2 r t)) := by
  funext t
  unfold netStage
  have hs : s.val < 5 := s.isLt
  have hw : stage 5 s.val (fun i => decide (i.val &&& 2 ^ (l.val + 1) = 0) == false)
      = stage 5 s.val (fun i => !(decide (i.val &&& 2 ^ (l.val + 1) = 0) == decide (i.val &&& 2 ^ s.val = 0))) := by
    refine stage_congr fun i hi => ?_
    simp only [hi]
    cases decide (i.val &&& 2 ^ (l.val + 1) = 0) <;> rfl
  rw [hw]
  rw [apply_stage_select hs _ (fun j => by rw [keep_partner l s hsl j])]
  have hp : select (clearLanes db) (rollLeft (2 ^ s.val) e h v) (rollRight (2 ^ s.val) e h v) (ix2 r t)
      = v (ix2 r (partner 5 s.val t)) := by
    show (if clearLanes db (ix2 r t) = 1#1 then _ else _) = _
    rw [clearLanes_apply]
    by_cases hc : t.val &&& 2 ^ s.val = 0
    · rw [if_pos ((hb t).2 hc), if_pos rfl]
      exact rollLeft_apply _ _ h v r t _ (partner_val_of_clear hs t hc) hd
    · rw [if_neg (fun h' => hc ((hb t).1 h')), if_neg (by decide)]
      have := partner_val_of_set hs t hc
      refine rollRight_apply _ _ h v r t _ ?_
      omega
  show (if xori (xori (clearLanes kb) (clearLanes db)) (constantI S64x32 1 1#1) (ix2 r t) = 1#1 then
      min (v (ix2 r t)) (select (clearLanes db) (rollLeft (2 ^ s.val) e h v) (rollRight (2 ^ s.val) e h v) (ix2 r t))
    else max (v (ix2 r t)) (select (clearLanes db) (rollLeft (2 ^ s.val) e h v) (rollRight (2 ^ s.val) e h v) (ix2 r t))) = _
  rw [hp]
  generalize hx : v (ix2 r (partner 5 s.val t)) = x
  generalize hy : v (ix2 r t) = y
  show (if (clearLanes kb (ix2 r t) ^^^ clearLanes db (ix2 r t)) ^^^ 1#1 = 1#1 then min y x else max y x)
    = if decide (x < y) = !(decide (t.val &&& 2 ^ (l.val + 1) = 0) == decide (t.val &&& 2 ^ s.val = 0)) then y else x
  rw [clearLanes_apply, clearLanes_apply]
  simp only [hk t, hb t]
  by_cases h1 : t.val &&& 2 ^ (l.val + 1) = 0 <;> by_cases h2 : t.val &&& 2 ^ s.val = 0 <;> by_cases h3 : x < y <;>
    simp [h1, h2, h3, le_of_lt, not_lt.1]

/-! The lane numbers' bits, as words and as numbers. -/

/-- Bit 0 of a lane number is clear in the word just when it is clear in the number. -/
theorem bit0 : ∀ t : Fin 32, (BitVec.ofNat 32 t.val &&& 1#32 = 0#32) ↔ t.val &&& 2 ^ 0 = 0 := by decide +kernel
/-- Bit 1 of a lane number is clear in the word just when it is clear in the number. -/
theorem bit1 : ∀ t : Fin 32, (BitVec.ofNat 32 t.val &&& 2#32 = 0#32) ↔ t.val &&& 2 ^ 1 = 0 := by decide +kernel
/-- Bit 2 of a lane number is clear in the word just when it is clear in the number. -/
theorem bit2 : ∀ t : Fin 32, (BitVec.ofNat 32 t.val &&& 4#32 = 0#32) ↔ t.val &&& 2 ^ 2 = 0 := by decide +kernel
/-- Bit 3 of a lane number is clear in the word just when it is clear in the number. -/
theorem bit3 : ∀ t : Fin 32, (BitVec.ofNat 32 t.val &&& 8#32 = 0#32) ↔ t.val &&& 2 ^ 3 = 0 := by decide +kernel
/-- Bit 4 of a lane number is clear in the word just when it is clear in the number. -/
theorem bit4 : ∀ t : Fin 32, (BitVec.ofNat 32 t.val &&& 16#32 = 0#32) ↔ t.val &&& 2 ^ 4 = 0 := by decide +kernel
/-- Bit 5 of a lane number is clear in the word just when it is clear in the number. -/
theorem bit5 : ∀ t : Fin 32, (BitVec.ofNat 32 t.val &&& 32#32 = 0#32) ↔ t.val &&& 2 ^ 5 = 0 := by decide +kernel

section rows

variable (v : FVec Ideal S64x32 .f32) (r : Fin 64)

/-- On a row, the kernel's merge into runs of 2 is the network's stages of level 0. -/
theorem merge2_row : (fun t : Fin 32 => merge2 v (ix2 r t)) = Network.apply (netStage 0 0) (fun t : Fin 32 => v (ix2 r t)) :=
  laneStage_row 0 0 (by decide) 2#32 1#32 31 cut1 rfl bit1 bit0 v r

/-- On a row, the kernel's merge into runs of 4 is the network's stages of level 1. -/
theorem merge4_row : (fun t : Fin 32 => merge4 v (ix2 r t))
    = Network.apply (netStage 1 0) (Network.apply (netStage 1 1) (fun t : Fin 32 => v (ix2 r t))) := by
  unfold merge4
  rw [← laneStage_row 1 1 (by decide) 4#32 2#32 30 cut2 rfl bit2 bit1 v r]
  exact laneStage_row 1 0 (by decide) 4#32 1#32 31 cut1 rfl bit2 bit0 _ r

/-- On a row, the kernel's merge into runs of 8 is the network's stages of level 2. -/
theorem merge8_row : (fun t : Fin 32 => merge8 v (ix2 r t))
    = Network.apply (netStage 2 0) (Network.apply (netStage 2 1) (Network.apply (netStage 2 2) (fun t : Fin 32 => v (ix2 r t)))) := by
  unfold merge8
  rw [← laneStage_row 2 2 (by decide) 8#32 4#32 28 cut4 rfl bit3 bit2 v r]
  refine Eq.trans ?_ (congrArg _ (laneStage_row 2 1 (by decide) 8#32 2#32 30 cut2 rfl bit3 bit1 _ r))
  exact laneStage_row 2 0 (by decide) 8#32 1#32 31 cut1 rfl bit3 bit0 _ r

/-- On a row, the kernel's merge into runs of 16 is the network's stages of level 3. -/
theorem merge16_row : (fun t : Fin 32 => merge16 v (ix2 r t))
    = Network.apply (netStage 3 0) (Network.apply (netStage 3 1) (Network.apply (netStage 3 2)
        (Network.apply (netStage 3 3) (fun t : Fin 32 => v (ix2 r t))))) := by
  unfold merge16
  rw [← laneStage_row 3 3 (by decide) 16#32 8#32 24 cut8 rfl bit4 bit3 v r]
  refine Eq.trans ?_ (congrArg _ (congrArg _ (laneStage_row 3 2 (by decide) 16#32 4#32 28 cut4 rfl bit4 bit2 _ r)))
  refine Eq.trans ?_ (congrArg _ (laneStage_row 3 1 (by decide) 16#32 2#32 30 cut2 rfl bit4 bit1 _ r))
  exact laneStage_row 3 0 (by decide) 16#32 1#32 31 cut1 rfl bit4 bit0 _ r

/-- On a row, the kernel's merge into runs of 32 is the network's stages of level 4. -/
theorem merge32_row : (fun t : Fin 32 => merge32 v (ix2 r t))
    = Network.apply (netStage 4 0) (Network.apply (netStage 4 1) (Network.apply (netStage 4 2)
        (Network.apply (netStage 4 3) (Network.apply (netStage 4 4) (fun t : Fin 32 => v (ix2 r t)))))) := by
  unfold merge32
  rw [← laneStage_row 4 4 (by decide) 32#32 16#32 16 cut16 rfl bit5 bit4 v r]
  refine Eq.trans ?_ (congrArg _ (congrArg _ (congrArg _ (laneStage_row 4 3 (by decide) 32#32 8#32 24 cut8 rfl bit5 bit3 _ r))))
  refine Eq.trans ?_ (congrArg _ (congrArg _ (laneStage_row 4 2 (by decide) 32#32 4#32 28 cut4 rfl bit5 bit2 _ r)))
  refine Eq.trans ?_ (congrArg _ (laneStage_row 4 1 (by decide) 32#32 2#32 30 cut2 rfl bit5 bit1 _ r))
  exact laneStage_row 4 0 (by decide) 32#32 1#32 31 cut1 rfl bit5 bit0 _ r

/-- The sorting network of 32 lanes, written as its fifteen stages. -/
theorem sortNet_eq : sortNet 5 false = netStage 0 0 ++ (netStage 1 1 ++ netStage 1 0)
    ++ (netStage 2 2 ++ (netStage 2 1 ++ netStage 2 0)) ++ (netStage 3 3 ++ (netStage 3 2 ++ (netStage 3 1 ++ netStage 3 0)))
    ++ (netStage 4 4 ++ (netStage 4 3 ++ (netStage 4 2 ++ (netStage 4 1 ++ netStage 4 0)))) := by
  have hr : List.range 5 = [0, 1, 2, 3, 4] := rfl
  have r1 : (List.range (0 + 1)).reverse = [0] := rfl
  have r2 : (List.range (1 + 1)).reverse = [1, 0] := rfl
  have r3 : (List.range (2 + 1)).reverse = [2, 1, 0] := rfl
  have r4 : (List.range (3 + 1)).reverse = [3, 2, 1, 0] := rfl
  have r5 : (List.range (4 + 1)).reverse = [4, 3, 2, 1, 0] := rfl
  simp only [sortNet, hr, List.flatMap_cons, List.flatMap_nil, r1, r2, r3, r4, r5, List.append_nil, List.append_assoc]
  rfl

/-- Every row of the sorted block is the whole network applied to that row. -/
theorem sortedBlock_row :
    (fun t : Fin 32 => sortedBlock v (ix2 r t)) = Network.apply (sortNet 5 false) (fun t : Fin 32 => v (ix2 r t)) := by
  unfold sortedBlock
  rw [merge32_row, merge16_row, merge8_row, merge4_row, merge2_row, sortNet_eq]
  simp only [Network.apply_append]

end rows

/-- Every row of the sorted block is the same row of the block, in ascending order. -/
theorem sortedBlock_isSortOf (v : FVec Ideal S64x32 .f32) (r : Fin 64) :
    IsSortOf (fun t : Fin 32 => sortedBlock v (ix2 r t)) (fun t : Fin 32 => v (ix2 r t)) := by
  rw [sortedBlock_row]
  exact ⟨sortNet_apply_monotone 5 _, Network.exists_perm _ _⟩

end Cert.LaneSort

end
-- ==== Proof.Sort7.lean ====
/-
  THE KERNEL'S SORT OF THE SEVEN HEADS. The seven numbers at one entry go through seven rounds that compare neighbours, alternately
  from the first and from the second position. `sort7_isSortOf`: what comes out is what went in, in ascending order.
-/
module

public import proofs.«01_k».proof.Proof.Gen.KernelIdeal.Frame
public import proofs.«01_k».proof.Proof.SortFiber
public import Idealize.ShloMosaic.Lib.Pointwise
public import Idealize.ShloMosaic.Lib.SortNet.Basic

@[expose] public section

noncomputable section

namespace Cert.Sort7

open Idealize.ShloMosaic Idealize.ShloMosaic.SortNet Cert.KernelIdeal Cert.KernelIdeal.Gen Cert.SortFiber

/-- The round that compares positions 0 and 1, 2 and 3, 4 and 5. -/
def evenRound : Network 7 := [⟨0, 1, by decide⟩, ⟨2, 3, by decide⟩, ⟨4, 5, by decide⟩]

/-- The round that compares positions 1 and 2, 3 and 4, 5 and 6. -/
def oddRound : Network 7 := [⟨1, 2, by decide⟩, ⟨3, 4, by decide⟩, ⟨5, 6, by decide⟩]

/-- The seven rounds. -/
def net7 : Network 7 := evenRound ++ (oddRound ++ (evenRound ++ (oddRound ++ (evenRound ++ (oddRound ++ evenRound)))))

section rounds

variable {α : Type*} [LinearOrder α] (a b c d e f g : α)

/-- What an even round does to seven values. -/
theorem evenRound_apply : Network.apply evenRound ![a, b, c, d, e, f, g]
    = ![min a b, max a b, min c d, max c d, min e f, max e f, g] := by
  funext k
  match k with
  | 0 => rfl
  | 1 => rfl
  | 2 => rfl
  | 3 => rfl
  | 4 => rfl
  | 5 => rfl
  | 6 => rfl

/-- What an odd round does to seven values. -/
theorem oddRound_apply : Network.apply oddRound ![a, b, c, d, e, f, g]
    = ![a, min b c, max b c, min d e, max d e, min f g, max f g] := by
  funext k
  match k with
  | 0 => rfl
  | 1 => rfl
  | 2 => rfl
  | 3 => rfl
  | 4 => rfl
  | 5 => rfl
  | 6 => rfl

end rounds

/-- The seven rounds sort every vector of truth values. -/
theorem net7_bool : ∀ b : Fin 7 → Bool, ∀ i : Fin 6, Network.apply net7 b i.castSucc ≤ Network.apply net7 b i.succ := by
  decide +kernel

/-- The seven rounds sort any seven values. -/
theorem net7_isSortOf (v : Fin 7 → EReal) : IsSortOf (Network.apply net7 v) v :=
  ⟨Network.zero_one net7 (fun b => Fin.monotone_iff_le_succ.2 (net7_bool b)) v, Network.exists_perm net7 v⟩

section blocks

variable (h0 h1 h2 h3 h4 h5 : FVec Ideal S64x96 .f32) (l6 : FVec Ideal S64x128 .f32) (w6 : Vec Ideal S1x128x96 .f32)
  (b6 : Vec Ideal S1x96 .f32)

/-- The seven head blocks at one entry. -/
def headsAt (i : S64x96.Idx) : Fin 7 → EReal := ![h0 i, h1 i, h2 i, h3 i, h4 i, h5 i, k0_pay14 l6 w6 b6 i]

/-- The seven sorted blocks at one entry. -/
def sortedAt (i : S64x96.Idx) : Fin 7 → EReal :=
  ![k0_pay51 h0 h1 h2 h3 h4 h5 l6 w6 b6 i, k0_pay52 h0 h1 h2 h3 h4 h5 l6 w6 b6 i, k0_pay53 h0 h1 h2 h3 h4 h5 l6 w6 b6 i,
    k0_pay54 h0 h1 h2 h3 h4 h5 l6 w6 b6 i, k0_pay55 h0 h1 h2 h3 h4 h5 l6 w6 b6 i, k0_pay56 h0 h1 h2 h3 h4 h5 l6 w6 b6 i,
    k0_pay50 h0 h1 h2 h3 h4 h5 l6 w6 b6 i]

/-- The printed minima and maxima are the seven rounds. -/
theorem sortedAt_eq (i : S64x96.Idx) :
    Network.apply net7 (headsAt h0 h1 h2 h3 h4 h5 l6 w6 b6 i) = sortedAt h0 h1 h2 h3 h4 h5 l6 w6 b6 i := by
  unfold net7
  simp only [Network.apply_append]
  have r1 : Network.apply evenRound (headsAt h0 h1 h2 h3 h4 h5 l6 w6 b6 i)
      = ![k0_pay15 h0 h1 i, k0_pay16 h0 h1 i, k0_pay17 h2 h3 i, k0_pay18 h2 h3 i, k0_pay19 h4 h5 i, k0_pay20 h4 h5 i,
          k0_pay14 l6 w6 b6 i] := evenRound_apply _ _ _ _ _ _ _
  have r2 : Network.apply oddRound ![k0_pay15 h0 h1 i, k0_pay16 h0 h1 i, k0_pay17 h2 h3 i, k0_pay18 h2 h3 i, k0_pay19 h4 h5 i,
        k0_pay20 h4 h5 i, k0_pay14 l6 w6 b6 i]
      = ![k0_pay15 h0 h1 i, k0_pay21 h0 h1 h2 h3 i, k0_pay22 h0 h1 h2 h3 i, k0_pay23 h2 h3 h4 h5 i, k0_pay24 h2 h3 h4 h5 i,
          k0_pay25 h4 h5 l6 w6 b6 i, k0_pay26 h4 h5 l6 w6 b6 i] := oddRound_apply _ _ _ _ _ _ _
  have r3 : Network.apply evenRound ![k0_pay15 h0 h1 i, k0_pay21 h0 h1 h2 h3 i, k0_pay22 h0 h1 h2 h3 i, k0_pay23 h2 h3 h4 h5 i,
        k0_pay24 h2 h3 h4 h5 i, k0_pay25 h4 h5 l6 w6 b6 i, k0_pay26 h4 h5 l6 w6 b6 i]
      = ![k0_pay27 h0 h1 h2 h3 i, k0_pay28 h0 h1 h2 h3 i, k0_pay29 h0 h1 h2 h3 h4 h5 i, k0_pay30 h0 h1 h2 h3 h4 h5 i,
          k0_pay31 h2 h3 h4 h5 l6 w6 b6 i, k0_pay32 h2 h3 h4 h5 l6 w6 b6 i, k0_pay26 h4 h5 l6 w6 b6 i] :=
    evenRound_apply _ _ _ _ _ _ _
  have r4 : Network.apply oddRound ![k0_pay27 h0 h1 h2 h3 i, k0_pay28 h0 h1 h2 h3 i, k0_pay29 h0 h1 h2 h3 h4 h5 i,
        k0_pay30 h0 h1 h2 h3 h4 h5 i, k0_pay31 h2 h3 h4 h5 l6 w6 b6 i, k0_pay32 h2 h3 h4 h5 l6 w6 b6 i, k0_pay26 h4 h5 l6 w6 b6 i]
      = ![k0_pay27 h0 h1 h2 h3 i, k0_pay33 h0 h1 h2 h3 h4 h5 i, k0_pay34 h0 h1 h2 h3 h4 h5 i,
          k0_pay35 h0 h1 h2 h3 h4 h5 l6 w6 b6 i, k0_pay36 h0 h1 h2 h3 h4 h5 l6 w6 b6 i, k0_pay37 h2 h3 h4 h5 l6 w6 b6 i,
          k0_pay38 h2 h3 h4 h5 l6 w6 b6 i] := oddRound_apply _ _ _ _ _ _ _
  have r5 : Network.apply evenRound ![k0_pay27 h0 h1 h2 h3 i, k0_pay33 h0 h1 h2 h3 h4 h5 i, k0_pay34 h0 h1 h2 h3 h4 h5 i,
        k0_pay35 h0 h1 h2 h3 h4 h5 l6 w6 b6 i, k0_pay36 h0 h1 h2 h3 h4 h5 l6 w6 b6 i, k0_pay37 h2 h3 h4 h5 l6 w6 b6 i,
        k0_pay38 h2 h3 h4 h5 l6 w6 b6 i]
      = ![k0_pay39 h0 h1 h2 h3 h4 h5 i, k0_pay40 h0 h1 h2 h3 h4 h5 i, k0_pay41 h0 h1 h2 h3 h4 h5 l6 w6 b6 i,
          k0_pay42 h0 h1 h2 h3 h4 h5 l6 w6 b6 i, k0_pay43 h0 h1 h2 h3 h4 h5 l6 w6 b6 i, k0_pay44 h0 h1 h2 h3 h4 h5 l6 w6 b6 i,
          k0_pay38 h2 h3 h4 h5 l6 w6 b6 i] := evenRound_apply _ _ _ _ _ _ _
  have r6 : Network.apply oddRound ![k0_pay39 h0 h1 h2 h3 h4 h5 i, k0_pay40 h0 h1 h2 h3 h4 h5 i,
        k0_pay41 h0 h1 h2 h3 h4 h5 l6 w6 b6 i, k0_pay42 h0 h1 h2 h3 h4 h5 l6 w6 b6 i, k0_pay43 h0 h1 h2 h3 h4 h5 l6 w6 b6 i,
        k0_pay44 h0 h1 h2 h3 h4 h5 l6 w6 b6 i, k0_pay38 h2 h3 h4 h5 l6 w6 b6 i]
      = ![k0_pay39 h0 h1 h2 h3 h4 h5 i, k0_pay45 h0 h1 h2 h3 h4 h5 l6 w6 b6 i, k0_pay46 h0 h1 h2 h3 h4 h5 l6 w6 b6 i,
          k0_pay47 h0 h1 h2 h3 h4 h5 l6 w6 b6 i, k0_pay48 h0 h1 h2 h3 h4 h5 l6 w6 b6 i, k0_pay49 h0 h1 h2 h3 h4 h5 l6 w6 b6 i,
          k0_pay50 h0 h1 h2 h3 h4 h5 l6 w6 b6 i] := oddRound_apply _ _ _ _ _ _ _
  rw [r1, r2, r3, r4, r5, r6]
  exact evenRound_apply _ _ _ _ _ _ _

/-- The seven sorted blocks hold the seven heads in ascending order, at every entry. -/
theorem sort7_isSortOf (i : S64x96.Idx) :
    IsSortOf (sortedAt h0 h1 h2 h3 h4 h5 l6 w6 b6 i) (headsAt h0 h1 h2 h3 h4 h5 l6 w6 b6 i) := by
  rw [← sortedAt_eq]
  exact net7_isSortOf _

end blocks

end Cert.Sort7

end
-- ==== Proof.Interp.lean ====
/-
  PIECEWISE LINEAR INTERPOLATION BETWEEN THE SEVEN FIXED LEVELS, over the extended reals.

  `interp s q` is the value at `q` of the function that is `s 0` up to the lowest level, `s 6` from the highest level on, and on
  the segment between two neighbouring levels the mixture of the two values there. It is monotone in `q` when `s` is
  (`interp_mono`), whatever infinities `s` and `q` hold.
-/
module

public import Idealize.ShloMosaic.PureOps.Ideal.Laws
public import Idealize.ShloMosaic.Lib.IdealHost

@[expose] public section

noncomputable section

namespace Cert.Interp

open Idealize.ShloMosaic

/-- The seven levels, as the binary32 words both programs hold. -/
def levelWord : Fin 7 → BitVec 32 :=
  ![0x3CCCCCCD#32, 0x3DCCCCCD#32, 0x3E800000#32, 0x3F000000#32, 0x3F400000#32, 0x3F666666#32, 0x3F79999A#32]

/-- The seven levels as extended reals. -/
def level (i : Fin 7) : EReal := Ideal.ofBits .f32 (levelWord i)

/-- The seven levels as real numbers. -/
def levelReal : Fin 7 → ℝ :=
  ![13421773 / 2 ^ 29, 13421773 / 2 ^ 27, 1 / 4, 1 / 2, 3 / 4, 15099494 / 2 ^ 24, 16357786 / 2 ^ 24]

/-- The small constant added to the denominator of an interpolation weight. -/
def eps : EReal := Ideal.ofBits .f32 0x322BCC77#32

/-- That constant as a real number. -/
def epsReal : ℝ := 11258999 / 2 ^ 50

/-- Every level is the real number named. -/
theorem level_eq (i : Fin 7) : level i = (levelReal i : EReal) := by
  fin_cases i <;>
    (simp [level, levelWord, levelReal, Ideal.ofBits, Ideal.ieee]
     try (norm_num [zpow_neg]
          rw [← EReal.coe_mul]
          norm_num))

/-- The small constant is the real number named. -/
theorem eps_eq : eps = (epsReal : EReal) := by
  simp [eps, epsReal, Ideal.ofBits, Ideal.ieee]
  norm_num [zpow_neg]
  rw [← EReal.coe_mul]
  norm_num

/-- The levels ascend strictly. -/
theorem levelReal_strictMono : StrictMono levelReal := by
  rw [Fin.strictMono_iff_lt_succ]
  intro i
  match i with
  | 0 => show (13421773 / 2 ^ 29 : ℝ) < 13421773 / 2 ^ 27; norm_num
  | 1 => show (13421773 / 2 ^ 27 : ℝ) < 1 / 4; norm_num
  | 2 => show (1 / 4 : ℝ) < 1 / 2; norm_num
  | 3 => show (1 / 2 : ℝ) < 3 / 4; norm_num
  | 4 => show (3 / 4 : ℝ) < 15099494 / 2 ^ 24; norm_num
  | 5 => show (15099494 / 2 ^ 24 : ℝ) < 16357786 / 2 ^ 24; norm_num

/-- The levels ascend strictly, as extended reals. -/
theorem level_strictMono : StrictMono level := fun i j h => by
  rw [level_eq, level_eq, EReal.coe_lt_coe_iff]
  exact levelReal_strictMono h

/-- The small constant is positive. -/
theorem epsReal_pos : 0 < epsReal := by norm_num [epsReal]

/-- The interpolation weight of `q` between `lo` and `hi`. -/
def weight (lo hi q : EReal) : EReal := Ideal.div (q - lo) ((hi - lo) + eps)

/-- The mixture of `a` and `b` with weight `w` on `b`. -/
def mix (w a b : EReal) : EReal := (1 - w) * a + w * b

/-- The segment between neighbouring levels that holds `q`, by its lower level. -/
def seg (q : EReal) : Fin 6 :=
  if q ≤ level 1 then 0 else if q ≤ level 2 then 1 else if q ≤ level 3 then 2
  else if q ≤ level 4 then 3 else if q ≤ level 5 then 4 else 5

/-- The mixture that the segment `i` gives at `q`. -/
def piece (s : Fin 7 → EReal) (i : Fin 6) (q : EReal) : EReal :=
  mix (weight (level i.castSucc) (level i.succ) q) (s i.castSucc) (s i.succ)

/-- The interpolated value at `q`. -/
def interp (s : Fin 7 → EReal) (q : EReal) : EReal :=
  if q ≤ level 0 then s 0 else if level 6 ≤ q then s 6 else piece s (seg q) q

/-- At weight zero the mixture is its first value. -/
theorem mix_zero (a b : EReal) : mix 0 a b = a := by simp [mix]

/-- At weight one the mixture is its second value. -/
theorem mix_one (a b : EReal) : mix 1 a b = b := by
  have h : (1 : EReal) - 1 = 0 := by rw [← EReal.coe_one, ← EReal.coe_sub]; simp
  simp [mix, h]

/-- A mixture of values in order grows with its weight. -/
theorem mix_mono {a b : EReal} (hab : a ≤ b) {w w' : ℝ} (h0 : 0 ≤ w) (hw : w ≤ w') (h1 : w' ≤ 1) :
    mix w a b ≤ mix w' a b := by
  have e (x : ℝ) : (1 : EReal) - (x : EReal) = ((1 - x : ℝ) : EReal) := by
    rw [EReal.coe_sub, EReal.coe_one]
  rcases eq_or_lt_of_le h1 with rfl | h1'
  · rcases eq_or_lt_of_le hw with rfl | hw'
    · exact le_rfl
    · rw [EReal.coe_one, mix_one]
      unfold mix
      rw [e]
      have p : 0 < 1 - w := by linarith
      induction b with
      | top => exact le_top
      | bot =>
        have : a = ⊥ := le_bot_iff.mp hab
        subst this
        rw [EReal.coe_mul_bot_of_pos p, EReal.bot_add]
      | coe b =>
        induction a with
        | top => exact absurd hab (by simp)
        | bot => rw [EReal.coe_mul_bot_of_pos p, EReal.bot_add]; exact bot_le
        | coe a =>
          rw [EReal.coe_le_coe_iff] at hab
          norm_cast
          nlinarith
  · have hw1 : 0 < 1 - w := by linarith
    have hw1' : 0 < 1 - w' := by linarith
    unfold mix
    rw [e, e]
    induction a with
    | bot => rw [EReal.coe_mul_bot_of_pos hw1, EReal.bot_add]; exact bot_le
    | top =>
      have : b = ⊤ := top_le_iff.mp hab
      subst this
      rcases eq_or_lt_of_le (h0.trans hw) with h | h
      · have : w = 0 := le_antisymm (h ▸ hw) h0
        subst this; rw [← h]
      · rw [EReal.coe_mul_top_of_pos h, EReal.coe_mul_top_of_pos hw1']; exact le_top
    | coe a =>
      induction b with
      | bot => exact absurd hab (by simp)
      | top =>
        rcases eq_or_lt_of_le (h0.trans hw) with h | h
        · have : w = 0 := le_antisymm (h ▸ hw) h0
          subst this; rw [← h]
        · have ht : ((1 - w' : ℝ) : EReal) * (a : EReal) + (w' : EReal) * ⊤ = ⊤ := by
            rw [EReal.coe_mul_top_of_pos h, ← EReal.coe_mul, EReal.coe_add_top]
          rw [ht]; exact le_top
      | coe b =>
        rw [EReal.coe_le_coe_iff] at hab
        norm_cast
        nlinarith

/-- Between two levels the weight is a real number in `[0, 1]`, and it grows with `q`. -/
theorem weight_real (i : Fin 6) (x : ℝ) : weight (level i.castSucc) (level i.succ) (x : EReal)
    = (((x - levelReal i.castSucc) * (levelReal i.succ - levelReal i.castSucc + epsReal)⁻¹ : ℝ) : EReal) := by
  have hp : 0 < levelReal i.succ - levelReal i.castSucc + epsReal := by
    have := levelReal_strictMono (Fin.castSucc_lt_succ (i := i))
    have := epsReal_pos
    linarith
  unfold weight Ideal.div
  rw [level_eq, level_eq, eps_eq, ← EReal.coe_sub, ← EReal.coe_sub, ← EReal.coe_add, if_neg, ← EReal.coe_inv, ← EReal.coe_mul]
  rw [← EReal.coe_zero, EReal.coe_eq_coe_iff]
  exact hp.ne'

/-- On a segment the mixture grows with `q`. -/
theorem piece_mono {s : Fin 7 → EReal} (hs : Monotone s) (i : Fin 6) {q q' : EReal} (h0 : level i.castSucc ≤ q) (h : q ≤ q')
    (h1 : q' ≤ level i.succ) : piece s i q ≤ piece s i q' := by
  rw [level_eq] at h0 h1
  lift q to ℝ using ⟨((h.trans h1).trans_lt (EReal.coe_lt_top _)).ne, ((EReal.bot_lt_coe _).trans_le h0).ne'⟩
  lift q' to ℝ using ⟨(h1.trans_lt (EReal.coe_lt_top _)).ne, ((EReal.bot_lt_coe _).trans_le (h0.trans h)).ne'⟩
  rw [EReal.coe_le_coe_iff] at h0 h h1
  have hl := levelReal_strictMono (Fin.castSucc_lt_succ (i := i))
  have he := epsReal_pos
  have hp : 0 < levelReal i.succ - levelReal i.castSucc + epsReal := by linarith
  unfold piece
  rw [weight_real, weight_real]
  refine mix_mono (hs (Fin.castSucc_lt_succ (i := i)).le) ?_ ?_ ?_
  · exact mul_nonneg (by linarith) (inv_nonneg.mpr hp.le)
  · exact mul_le_mul_of_nonneg_right (by linarith) (inv_nonneg.mpr hp.le)
  · rw [← div_eq_mul_inv, div_le_one hp]; linarith

/-- On a segment the mixture lies between the two values it mixes. -/
theorem piece_bounds {s : Fin 7 → EReal} (hs : Monotone s) (i : Fin 6) {q : EReal} (h0 : level i.castSucc ≤ q)
    (h1 : q ≤ level i.succ) : s i.castSucc ≤ piece s i q ∧ piece s i q ≤ s i.succ := by
  rw [level_eq] at h0 h1
  lift q to ℝ using ⟨(h1.trans_lt (EReal.coe_lt_top _)).ne, ((EReal.bot_lt_coe _).trans_le h0).ne'⟩
  rw [EReal.coe_le_coe_iff] at h0 h1
  have hl := levelReal_strictMono (Fin.castSucc_lt_succ (i := i))
  have he := epsReal_pos
  have hp : 0 < levelReal i.succ - levelReal i.castSucc + epsReal := by linarith
  have w0 : 0 ≤ (q - levelReal i.castSucc) * (levelReal i.succ - levelReal i.castSucc + epsReal)⁻¹ :=
    mul_nonneg (by linarith) (inv_nonneg.mpr hp.le)
  have w1 : (q - levelReal i.castSucc) * (levelReal i.succ - levelReal i.castSucc + epsReal)⁻¹ ≤ 1 := by
    rw [← div_eq_mul_inv, div_le_one hp]; linarith
  have hss := hs (Fin.castSucc_lt_succ (i := i)).le
  unfold piece
  rw [weight_real]
  constructor
  · have := mix_mono hss le_rfl w0 w1
    rwa [EReal.coe_zero, mix_zero] at this
  · have := mix_mono hss w0 w1 le_rfl
    rwa [EReal.coe_one, mix_one] at this

/-- A point strictly between the lowest and the highest level is above its segment's lower level and not above the upper one. -/
theorem seg_spec {q : EReal} (h0 : level 0 < q) (h6 : q < level 6) :
    level (seg q).castSucc < q ∧ q ≤ level (seg q).succ := by
  unfold seg
  split_ifs with h1 h2 h3 h4 h5
  · exact ⟨h0, h1⟩
  · exact ⟨not_le.mp h1, h2⟩
  · exact ⟨not_le.mp h2, h3⟩
  · exact ⟨not_le.mp h3, h4⟩
  · exact ⟨not_le.mp h4, h5⟩
  · exact ⟨not_le.mp h5, h6.le⟩

/-- A point inside segment `i` has segment `i`. -/
theorem seg_eq {q : EReal} {i : Fin 6} (h0 : level i.castSucc < q) (h1 : q ≤ level i.succ) : seg q = i := by
  have hn : ∀ j k : Fin 7, j ≤ k → level k < q → ¬ q ≤ level j := fun j k hjk h =>
    not_le.mpr ((level_strictMono.monotone hjk).trans_lt h)
  unfold seg
  match i with
  | 0 => exact if_pos h1
  | 1 =>
    simp only [Fin.reduceSucc, Fin.reduceCastSucc] at h0 h1
    rw [if_neg (hn 1 1 le_rfl h0), if_pos h1]
  | 2 =>
    simp only [Fin.reduceSucc, Fin.reduceCastSucc] at h0 h1
    rw [if_neg (hn 1 2 (by decide) h0), if_neg (hn 2 2 le_rfl h0), if_pos h1]
  | 3 =>
    simp only [Fin.reduceSucc, Fin.reduceCastSucc] at h0 h1
    rw [if_neg (hn 1 3 (by decide) h0), if_neg (hn 2 3 (by decide) h0), if_neg (hn 3 3 le_rfl h0), if_pos h1]
  | 4 =>
    simp only [Fin.reduceSucc, Fin.reduceCastSucc] at h0 h1
    rw [if_neg (hn 1 4 (by decide) h0), if_neg (hn 2 4 (by decide) h0), if_neg (hn 3 4 (by decide) h0), if_neg (hn 4 4 le_rfl h0),
      if_pos h1]
  | 5 =>
    simp only [Fin.reduceSucc, Fin.reduceCastSucc] at h0 h1
    rw [if_neg (hn 1 5 (by decide) h0), if_neg (hn 2 5 (by decide) h0), if_neg (hn 3 5 (by decide) h0),
      if_neg (hn 4 5 (by decide) h0), if_neg (hn 5 5 le_rfl h0)]

/-- Interpolating ascending values gives an ascending function. -/
theorem interp_mono {s : Fin 7 → EReal} (hs : Monotone s) : Monotone (interp s) := by
  intro q q' h
  unfold interp
  by_cases a : q ≤ level 0
  · rw [if_pos a]
    split_ifs with b c
    · exact le_rfl
    · exact hs (by decide)
    · obtain ⟨l, u⟩ := seg_spec (not_le.mp b) (not_le.mp c)
      exact (hs (Fin.zero_le _)).trans (piece_bounds hs _ l.le u).1
  · have a' : ¬ q' ≤ level 0 := fun h' => a (h.trans h')
    rw [if_neg a, if_neg a']
    by_cases b : level 6 ≤ q'
    · rw [if_pos b]
      split_ifs with c
      · exact le_rfl
      · obtain ⟨l, u⟩ := seg_spec (not_le.mp a) (not_le.mp c)
        exact (piece_bounds hs _ l.le u).2.trans (hs (Fin.le_last _))
    · have b' : ¬ level 6 ≤ q := fun h' => b (h'.trans h)
      rw [if_neg b, if_neg b']
      obtain ⟨l, u⟩ := seg_spec (not_le.mp a) (not_le.mp b')
      obtain ⟨l', u'⟩ := seg_spec (not_le.mp a') (not_le.mp b)
      rcases lt_trichotomy (seg q) (seg q') with c | c | c
      · refine (piece_bounds hs _ l.le u).2.trans (le_trans (hs ?_) (piece_bounds hs _ l'.le u').1)
        exact Fin.succ_le_castSucc_iff.mpr c
      · rw [← c] at u' ⊢
        exact piece_mono hs _ l.le h u'
      · exact absurd ((u'.trans (level_strictMono.monotone (Fin.succ_le_castSucc_iff.mpr c))).trans_lt l) (not_lt.mpr h)

end Cert.Interp

end
-- ==== Proof.Zone.lean ====
/-
  ZONES. The line of queries falls into six zones, one for each pair of neighbouring levels, the first reaching down and the last up
  without end. In a zone every comparison with an inner level is decided (`InZone.lt_iff`), and the interpolated value is one mixture of
  the zone's two values (`InZone.interp_eq`).
-/
module

public import proofs.«01_k».proof.Proof.Interp

@[expose] public section

noncomputable section

namespace Cert.Interp

open Idealize.ShloMosaic

/-- `q` lies above the zone's lower level and not above its upper level; the first zone has no lower end and the last no upper end. -/
def InZone (z : Fin 6) (q : EReal) : Prop := (z = 0 ∨ level z.castSucc < q) ∧ (z = 5 ∨ q ≤ level z.succ)

/-- Every query lies in a zone. -/
theorem exists_zone (q : EReal) : ∃ z, InZone z q := by
  by_cases h1 : q ≤ level 1
  · exact ⟨0, .inl rfl, .inr h1⟩
  by_cases h2 : q ≤ level 2
  · exact ⟨1, .inr (not_le.1 h1), .inr h2⟩
  by_cases h3 : q ≤ level 3
  · exact ⟨2, .inr (not_le.1 h2), .inr h3⟩
  by_cases h4 : q ≤ level 4
  · exact ⟨3, .inr (not_le.1 h3), .inr h4⟩
  by_cases h5 : q ≤ level 5
  · exact ⟨4, .inr (not_le.1 h4), .inr h5⟩
  · exact ⟨5, .inr (not_le.1 h5), .inl rfl⟩

variable {z : Fin 6} {q : EReal}

/-- From the second zone on, the levels up to the zone's lower one lie below `q`. -/
theorem InZone.below (h : InZone z q) {i : Fin 7} (hz : z ≠ 0) (hi : i ≤ z.castSucc) : level i < q :=
  (level_strictMono.monotone hi).trans_lt (h.1.resolve_left hz)

/-- Before the last zone, the levels from the zone's upper one on do not lie below `q`. -/
theorem InZone.not_below (h : InZone z q) {i : Fin 7} (hz : z ≠ 5) (hi : z.succ ≤ i) : ¬ level i < q :=
  not_lt.2 ((h.2.resolve_left hz).trans (level_strictMono.monotone hi))

/-- Which inner levels lie below `q`. -/
theorem InZone.lt_iff (h : InZone z q) {i : Fin 7} (h0 : i ≠ 0) (h6 : i ≠ 6) : level i < q ↔ i ≤ z.castSucc := by
  constructor
  · intro hlt
    by_contra hle
    have hz5 : z ≠ 5 := by
      rintro rfl
      have hv : i.val ≠ 6 := fun e => h6 (Fin.ext e)
      have := i.isLt
      refine hle (Fin.le_def.2 ?_)
      show i.val ≤ 5
      omega
    refine h.not_below hz5 ?_ hlt
    rw [Fin.le_def, Fin.val_succ]
    rw [Fin.le_def, Fin.val_castSucc] at hle
    omega
  · intro hle
    have hz0 : z ≠ 0 := by rintro rfl; apply h0; exact Fin.le_zero_iff.1 hle
    exact h.below hz0 hle

/-- The interpolated value in a zone. -/
theorem InZone.interp_eq (h : InZone z q) (s : Fin 7 → EReal) :
    interp s q = if q ≤ level 0 then s 0 else if level 6 ≤ q then s 6 else piece s z q := by
  unfold interp
  by_cases h0 : q ≤ level 0
  · rw [if_pos h0, if_pos h0]
  by_cases h6 : level 6 ≤ q
  · rw [if_neg h0, if_neg h0, if_pos h6, if_pos h6]
  rw [if_neg h0, if_neg h0, if_neg h6, if_neg h6]
  congr 1
  refine seg_eq ?_ ?_
  · rcases h.1 with rfl | hl
    · exact not_le.1 h0
    · exact hl
  · rcases h.2 with rfl | hu
    · exact (not_le.1 h6).le
    · exact hu

/-- The guarded weight: nothing up to the first level, everything from the last level on. -/
def guarded (q w : EReal) : EReal := if q ≤ level 0 then 0 else if level 6 ≤ q then 1 else w

/-- In a zone the interpolated value is one mixture, with the guarded weight. -/
theorem InZone.interp_guarded (h : InZone z q) (s : Fin 7 → EReal) :
    interp s q = mix (guarded q (weight (level z.castSucc) (level z.succ) q)) (s z.castSucc) (s z.succ) := by
  rw [h.interp_eq]
  unfold guarded
  by_cases h0 : q ≤ level 0
  · have hz : z = 0 := by
      by_contra hz
      exact absurd (h.below hz (Fin.zero_le _)) (not_lt.2 h0)
    subst hz
    rw [if_pos h0, if_pos h0, mix_zero]
    rfl
  rw [if_neg h0, if_neg h0]
  by_cases h6 : level 6 ≤ q
  · have hz : z = 5 := by
      by_contra hz
      have hv : z.val ≠ 5 := fun e => hz (Fin.ext e)
      have hs : z.succ < 6 := by
        have := z.isLt
        rw [Fin.lt_def, Fin.val_succ]
        show z.val + 1 < 6
        omega
      exact absurd (h.2.resolve_left hz) (not_le.2 ((level_strictMono hs).trans_le h6))
    subst hz
    rw [if_pos h6, if_pos h6, mix_one]
    rfl
  rw [if_neg h6, if_neg h6]
  rfl

end Cert.Interp

end
-- ==== Proof.Coef.lean ====
/-
  THE KERNEL'S COEFFICIENTS. For one query the kernel counts the levels below it, clips the count to 1 … 6, picks the two levels around
  it, computes the weight, and makes seven coefficients, one for each sorted head. `combine_eq`: the sum of the seven products is the
  interpolated value, at every query.
-/
module

public import proofs.«01_k».proof.Proof.Gen.KernelIdeal.Frame
public import proofs.«01_k».proof.Proof.Zone
public import Idealize.ShloMosaic.Lib.Pointwise

@[expose] public section

noncomputable section

namespace Cert.Coef

open Idealize.ShloMosaic Cert.KernelIdeal Cert.KernelIdeal.Gen Cert.Interp

/-- The number a word stands for. -/
abbrev lit (w : BitVec 32) : EReal := Ideal.ofBits .f32 w

/-- `a` where the comparison `p` of `x` with `y` holds, `b` elsewhere. -/
def pick (p : CmpFPredicate) (x y a b : EReal) : EReal := Scalar.select (Ideal.cmp p x y) a b

/-- Chosen by `x > y`: the first where `y` is less than `x`. -/
theorem pick_ogt (x y a b : EReal) : pick .ogt x y a b = if y < x then a else b := by
  by_cases h : y < x <;> simp [pick, Scalar.select, Ideal.cmp, h]

/-- Chosen by `x = y`: the first where the two are equal. -/
theorem pick_oeq (x y a b : EReal) : pick .oeq x y a b = if x = y then a else b := by
  by_cases h : x = y <;> simp [pick, Scalar.select, Ideal.cmp, h]

/-- Chosen by `x ≤ y`: the first where `x` is at most `y`. -/
theorem pick_ole (x y a b : EReal) : pick .ole x y a b = if x ≤ y then a else b := by
  by_cases h : x ≤ y <;> simp [pick, Scalar.select, Ideal.cmp, h]

/-- Chosen by `x ≥ y`: the first where `y` is at most `x`. -/
theorem pick_oge (x y a b : EReal) : pick .oge x y a b = if y ≤ x then a else b := by
  by_cases h : y ≤ x <;> simp [pick, Scalar.select, Ideal.cmp, h]

/-- One where the level `i` lies below `q`, nothing elsewhere. -/
def above (i : Fin 7) (q : EReal) : EReal := pick .ogt q (level i) (lit 0x3F800000#32) (lit 0x00000000#32)

/-- How many levels lie below `q`. -/
def count (q : EReal) : EReal :=
  lit 0x00000000#32 + above 0 q + above 1 q + above 2 q + above 3 q + above 4 q + above 5 q + above 6 q

/-- That number clipped to 1 … 6. -/
def index (q : EReal) : EReal := min (lit 0x40C00000#32) (max (lit 0x3F800000#32) (count q))

/-- The lower of the two levels around the query, by the clipped number. -/
def low (n : EReal) : EReal :=
  pick .oeq n (lit 0x40C00000#32) (level 5) (pick .oeq n (lit 0x40A00000#32) (level 4) (pick .oeq n (lit 0x40800000#32) (level 3)
    (pick .oeq n (lit 0x40400000#32) (level 2) (pick .oeq n (lit 0x40000000#32) (level 1) (level 0)))))

/-- The upper of the two levels around the query, by the clipped number. -/
def high (n : EReal) : EReal :=
  pick .oeq n (lit 0x40C00000#32) (level 6) (pick .oeq n (lit 0x40A00000#32) (level 5) (pick .oeq n (lit 0x40800000#32) (level 4)
    (pick .oeq n (lit 0x40400000#32) (level 3) (pick .oeq n (lit 0x40000000#32) (level 2) (level 1)))))

/-- The weight of the upper value. -/
def wgt (q : EReal) : EReal :=
  pick .ole q (level 0) (lit 0x00000000#32) (pick .oge q (level 6) (lit 0x3F800000#32) (weight (low (index q)) (high (index q)) q))

/-- The share of the lower value in the coefficient of the head numbered `w - 1`. -/
def lowShare (w : BitVec 32) (n x : EReal) : EReal := pick .oeq n (lit w) (lit 0x3F800000#32 - x) (lit 0x00000000#32)

/-- The share of the upper value in the coefficient of the head numbered `w`. -/
def highShare (w : BitVec 32) (n x : EReal) : EReal := pick .oeq n (lit w) x (lit 0x00000000#32)

/-- The seven coefficients, from the clipped number `n` and the weight `x`. -/
def coef (n x : EReal) : Fin 7 → EReal :=
  ![lowShare 0x3F800000#32 n x, lowShare 0x40000000#32 n x + highShare 0x3F800000#32 n x,
    lowShare 0x40400000#32 n x + highShare 0x40000000#32 n x, lowShare 0x40800000#32 n x + highShare 0x40400000#32 n x,
    lowShare 0x40A00000#32 n x + highShare 0x40800000#32 n x, lowShare 0x40C00000#32 n x + highShare 0x40A00000#32 n x,
    lowShare 0x40E00000#32 n x + highShare 0x40C00000#32 n x]

/-- The sum of the seven products, in the kernel's order. -/
def combine (c s : Fin 7 → EReal) : EReal :=
  lit 0x00000000#32 + c 0 * s 0 + c 1 * s 1 + c 2 * s 2 + c 3 * s 3 + c 4 * s 4 + c 5 * s 5 + c 6 * s 6

/-! The words the kernel counts and compares with, as numbers. -/

/-- The word of 0 is the number 0. -/
theorem lit_0 : lit 0x00000000#32 = ((0 : ℝ) : EReal) := by rw [EReal.coe_zero]; exact Ideal.ofBits_zero_f32
/-- The word of 1 is the number 1. -/
theorem lit_1 : lit 0x3F800000#32 = ((1 : ℝ) : EReal) := by rw [EReal.coe_one]; exact Ideal.ofBits_one_f32
/-- The word of 2 is the number 2. -/
theorem lit_2 : lit 0x40000000#32 = ((2 : ℝ) : EReal) := by
  simp [lit, Ideal.ofBits, Ideal.ieee]; try (norm_num [zpow_neg]; try (rw [← EReal.coe_mul]; norm_num))
/-- The word of 3 is the number 3. -/
theorem lit_3 : lit 0x40400000#32 = ((3 : ℝ) : EReal) := by
  simp [lit, Ideal.ofBits, Ideal.ieee]; try (norm_num [zpow_neg]; try (rw [← EReal.coe_mul]; norm_num))
/-- The word of 4 is the number 4. -/
theorem lit_4 : lit 0x40800000#32 = ((4 : ℝ) : EReal) := by
  simp [lit, Ideal.ofBits, Ideal.ieee]; try (norm_num [zpow_neg]; try (rw [← EReal.coe_mul]; norm_num))
/-- The word of 5 is the number 5. -/
theorem lit_5 : lit 0x40A00000#32 = ((5 : ℝ) : EReal) := by
  simp [lit, Ideal.ofBits, Ideal.ieee]; try (norm_num [zpow_neg]; try (rw [← EReal.coe_mul]; norm_num))
/-- The word of 6 is the number 6. -/
theorem lit_6 : lit 0x40C00000#32 = ((6 : ℝ) : EReal) := by
  simp [lit, Ideal.ofBits, Ideal.ieee]; try (norm_num [zpow_neg]; try (rw [← EReal.coe_mul]; norm_num))
/-- The word of 7 is the number 7. -/
theorem lit_7 : lit 0x40E00000#32 = ((7 : ℝ) : EReal) := by
  simp [lit, Ideal.ofBits, Ideal.ieee]; try (norm_num [zpow_neg]; try (rw [← EReal.coe_mul]; norm_num))

/-- One or nothing, as a real number. -/
def aboveReal (i : Fin 7) (q : EReal) : ℝ := if level i < q then 1 else 0

/-- The kernel's one or nothing is a real number. -/
theorem above_eq (i : Fin 7) (q : EReal) : above i q = (aboveReal i q : EReal) := by
  rw [above, pick_ogt, lit_0, lit_1, aboveReal]
  split_ifs <;> rfl

/-- The clipped number as a real number. -/
theorem index_eq (q : EReal) : index q = ((min 6 (max 1 (0 + aboveReal 0 q + aboveReal 1 q + aboveReal 2 q + aboveReal 3 q
    + aboveReal 4 q + aboveReal 5 q + aboveReal 6 q)) : ℝ) : EReal) := by
  have hm : Monotone ((↑) : ℝ → EReal) := EReal.coe_strictMono.monotone
  rw [hm.map_min, hm.map_max, EReal.coe_add, EReal.coe_add, EReal.coe_add, EReal.coe_add, EReal.coe_add, EReal.coe_add, EReal.coe_add]
  simp only [index, count, above_eq, lit_0, lit_1, lit_6]

/-- The clipped number in a zone. -/
theorem index_zone {z : Fin 6} {q : EReal} (h : InZone z q) : index q = ((z.val + 1 : ℝ) : EReal) := by
  have hi : ∀ i : Fin 7, i ≠ 0 → i ≠ 6 → aboveReal i q = if i ≤ z.castSucc then 1 else 0 := fun i h0 h6 => by
    simp only [aboveReal, h.lt_iff h0 h6]
  have h0 : z ≠ 0 → aboveReal 0 q = 1 := fun hz => if_pos (h.below hz (Fin.zero_le _))
  have h6 : z ≠ 5 → aboveReal 6 q = 0 := fun hz => if_neg (h.not_below hz (Fin.le_last _))
  have b0 : 0 ≤ aboveReal 0 q ∧ aboveReal 0 q ≤ 1 := by unfold aboveReal; split_ifs <;> norm_num
  have b6 : 0 ≤ aboveReal 6 q ∧ aboveReal 6 q ≤ 1 := by unfold aboveReal; split_ifs <;> norm_num
  rw [index_eq, hi 1 (by decide) (by decide), hi 2 (by decide) (by decide), hi 3 (by decide) (by decide), hi 4 (by decide) (by decide),
    hi 5 (by decide) (by decide)]
  congr 1
  match z with
  | 0 =>
    rw [h6 (by decide), if_neg (by decide), if_neg (by decide), if_neg (by decide), if_neg (by decide), if_neg (by decide)]
    rw [max_eq_left (by linarith [b0.2]), min_eq_right (by norm_num)]
    norm_num
  | 1 =>
    rw [h0 (by decide), h6 (by decide), if_pos (by decide), if_neg (by decide), if_neg (by decide), if_neg (by decide),
      if_neg (by decide)]
    norm_num
  | 2 =>
    rw [h0 (by decide), h6 (by decide), if_pos (by decide), if_pos (by decide), if_neg (by decide), if_neg (by decide),
      if_neg (by decide)]
    norm_num
  | 3 =>
    rw [h0 (by decide), h6 (by decide), if_pos (by decide), if_pos (by decide), if_pos (by decide), if_neg (by decide),
      if_neg (by decide)]
    norm_num
  | 4 =>
    rw [h0 (by decide), h6 (by decide), if_pos (by decide), if_pos (by decide), if_pos (by decide), if_pos (by decide),
      if_neg (by decide)]
    norm_num
  | 5 =>
    rw [h0 (by decide), if_pos (by decide), if_pos (by decide), if_pos (by decide), if_pos (by decide), if_pos (by decide)]
    rw [max_eq_right (by linarith [b6.1]), min_eq_left (by linarith [b6.1])]
    norm_num

/-- A pick by the clipped number against a whole number. -/
theorem pick_index (n m : ℝ) (a b : EReal) : pick .oeq (n : EReal) (m : EReal) a b = if n = m then a else b := by
  rw [pick_oeq]
  simp only [EReal.coe_eq_coe_iff]

/-- In a zone the kernel picks the zone's lower level. -/
theorem low_zone (z : Fin 6) : low ((z.val + 1 : ℝ) : EReal) = level z.castSucc := by
  unfold low
  rw [lit_2, lit_3, lit_4, lit_5, lit_6]
  simp only [pick_index]
  match z with
  | 0 => norm_num
  | 1 => norm_num
  | 2 => norm_num; rfl
  | 3 => norm_num; rfl
  | 4 => norm_num; rfl
  | 5 => norm_num; rfl

/-- In a zone the kernel picks the zone's upper level. -/
theorem high_zone (z : Fin 6) : high ((z.val + 1 : ℝ) : EReal) = level z.succ := by
  unfold high
  rw [lit_2, lit_3, lit_4, lit_5, lit_6]
  simp only [pick_index]
  match z with
  | 0 => norm_num
  | 1 => norm_num
  | 2 => norm_num; rfl
  | 3 => norm_num; rfl
  | 4 => norm_num; rfl
  | 5 => norm_num; rfl

/-- The kernel's weight is the guarded weight of the zone. -/
theorem wgt_zone {z : Fin 6} {q : EReal} (h : InZone z q) :
    wgt q = guarded q (weight (level z.castSucc) (level z.succ) q) := by
  rw [wgt, pick_ole, pick_oge, index_zone h, low_zone, high_zone, lit_0, lit_1]
  rfl

/-- The sum of the seven products, with the coefficients written out. -/
theorem combine_vec (a b c d e f g : EReal) (s : Fin 7 → EReal) : combine ![a, b, c, d, e, f, g] s
    = lit 0x00000000#32 + a * s 0 + b * s 1 + c * s 2 + d * s 3 + e * s 4 + f * s 5 + g * s 6 := rfl

/-- With the clipped number of a zone, the sum of the seven products is the mixture of the zone's two values. -/
theorem combine_zone (z : Fin 6) (x : EReal) (s : Fin 7 → EReal) :
    combine (coef ((z.val + 1 : ℝ) : EReal) x) s = mix x (s z.castSucc) (s z.succ) := by
  have e1 : lit 0x3F800000#32 = 1 := lit_1.trans EReal.coe_one
  have e0 : lit 0x00000000#32 = 0 := lit_0.trans EReal.coe_zero
  have hl : ∀ w (n : ℝ), lit w = (n : EReal) →
      lowShare w ((z.val + 1 : ℝ) : EReal) x = if (z.val + 1 : ℝ) = n then 1 - x else 0 := fun w n hw => by
    rw [lowShare, hw, pick_index, e1, e0]
  have hh : ∀ w (n : ℝ), lit w = (n : EReal) →
      highShare w ((z.val + 1 : ℝ) : EReal) x = if (z.val + 1 : ℝ) = n then x else 0 := fun w n hw => by
    rw [highShare, hw, pick_index, e0]
  unfold coef
  rw [hl _ _ lit_1, hl _ _ lit_2, hl _ _ lit_3, hl _ _ lit_4, hl _ _ lit_5, hl _ _ lit_6, hl _ _ lit_7,
    hh _ _ lit_1, hh _ _ lit_2, hh _ _ lit_3, hh _ _ lit_4, hh _ _ lit_5, hh _ _ lit_6]
  rw [combine_vec, e0]
  unfold mix
  match z with
  | 0 => norm_num
  | 1 => norm_num
  | 2 => norm_num; rfl
  | 3 => norm_num; rfl
  | 4 => norm_num; rfl
  | 5 => norm_num; rfl

/-- THE COEFFICIENTS' EQUATION: the sum of the seven products is the interpolated value. -/
theorem combine_eq (s : Fin 7 → EReal) (q : EReal) : combine (coef (index q) (wgt q)) s = interp s q := by
  obtain ⟨z, h⟩ := exists_zone q
  rw [h.interp_guarded, wgt_zone h, index_zone h, combine_zone]

section printed

variable (v504 v535 v551 v571 v575 v576 v596 v598 v615 : FVec Ideal S64x32 .f32) (v537 v573 v617 : IVec S64x32 1) (i : S64x32.Idx)

/-- The printed weight, from the picked levels. -/
theorem k0_pay90_at : k0_pay90 v504 v551 v571 v573 v575 v576 i
    = pick .ole (v504 i) (level 0) (lit 0x00000000#32) (pick .oge (v504 i) (level 6) (lit 0x3F800000#32)
        (weight (pick .oeq (v551 i) (lit 0x40C00000#32) (level 5) (v575 i))
          (pick .oeq (v551 i) (lit 0x40C00000#32) (level 6) (Scalar.select (v573 i) (v576 i) (v571 i))) (v504 i))) := rfl

/-- One less the printed weight. -/
theorem k0_pay91_at : k0_pay91 v504 v551 v571 v573 v575 v576 i
    = lit 0x3F800000#32 - k0_pay90 v504 v551 v571 v573 v575 v576 i := rfl

/-- The printed coefficient of the first head. -/
theorem k0_pay92_at : k0_pay92 v504 v551 v571 v573 v575 v576 i
    = coef (v551 i) (k0_pay90 v504 v551 v571 v573 v575 v576 i) 0 := rfl

/-- The printed coefficient of the second head. -/
theorem k0_pay93_at : k0_pay93 v504 v551 v571 v573 v575 v576 i
    = coef (v551 i) (k0_pay90 v504 v551 v571 v573 v575 v576 i) 1 := rfl

/-- The printed coefficient of the third head. -/
theorem k0_pay96_at : k0_pay96 (k0_pay90 v504 v551 v571 v573 v575 v576) (k0_pay94 v504 v551 v571 v573 v575 v576) (k0_pay95 v551)
      (Scalar.ofBits .f32 0x00000000#32) i
    = coef (v551 i) (k0_pay90 v504 v551 v571 v573 v575 v576 i) 2 := rfl

/-- The printed coefficient of the fourth head. -/
theorem k0_pay97_at (h : v598 i = lit 0x3F800000#32 - v596 i) : k0_pay97 v551 v596 v598 i = coef (v551 i) (v596 i) 3 := by
  show pick .oeq (v551 i) (lit 0x40800000#32) (v598 i) (lit 0x00000000#32) + highShare 0x40400000#32 (v551 i) (v596 i) = _
  rw [h]
  rfl

/-- The printed coefficient of the fifth head. -/
theorem k0_pay98_at (h : v598 i = lit 0x3F800000#32 - v596 i) : k0_pay98 v551 v596 v598 i = coef (v551 i) (v596 i) 4 := by
  show pick .oeq (v551 i) (lit 0x40A00000#32) (v598 i) (lit 0x00000000#32) + highShare 0x40800000#32 (v551 i) (v596 i) = _
  rw [h]
  rfl

/-- The printed coefficient of the sixth head. -/
theorem k0_pay99_at (h : v598 i = lit 0x3F800000#32 - v596 i) : k0_pay99 v551 v596 v598 i = coef (v551 i) (v596 i) 5 := by
  show pick .oeq (v551 i) (lit 0x40C00000#32) (v598 i) (lit 0x00000000#32) + highShare 0x40A00000#32 (v551 i) (v596 i) = _
  rw [h]
  rfl

/-- The printed coefficient of the seventh head. -/
theorem k0_pay100_at (h : v598 i = lit 0x3F800000#32 - v596 i) : k0_pay100 v551 v596 v598 i = coef (v551 i) (v596 i) 6 := by
  show pick .oeq (v551 i) (lit 0x40E00000#32) (v598 i) (lit 0x00000000#32) + highShare 0x40C00000#32 (v551 i) (v596 i) = _
  rw [h]
  rfl

/-- The printed clipped number. -/
theorem k0_pay82_at : k0_pay82 v504 v535 v537 i = min (lit 0x40C00000#32) (max (lit 0x3F800000#32)
    (v535 i + Scalar.select (v537 i) (lit 0x3F800000#32) (lit 0x00000000#32) + above 6 (v504 i))) := rfl

/-- The printed count of the first five levels. -/
theorem k0_pay80_at (v204 : IVec S64x32 32) (v484 : FVec Ideal S64x32 .f32) (v488 : IVec S64x32 1) (v495 : FVec Ideal S64x32 .f32)
    (v496 : IVec S64x32 32) : k0_pay80 v204 v484 v488 v495 v496 i
    = lit 0x00000000#32 + above 0 (k0_pay79 v204 v484 v488 v495 v496 i) + above 1 (k0_pay79 v204 v484 v488 v495 v496 i)
      + above 2 (k0_pay79 v204 v484 v488 v495 v496 i) + above 3 (k0_pay79 v204 v484 v488 v495 v496 i)
      + above 4 (k0_pay79 v204 v484 v488 v495 v496 i) := rfl

/-- The printed comparison with the sixth level. -/
theorem k0_pay81_at (v204 : IVec S64x32 32) (v484 : FVec Ideal S64x32 .f32) (v488 : IVec S64x32 1) (v495 : FVec Ideal S64x32 .f32)
    (v496 : IVec S64x32 32) : k0_pay81 v204 v484 v488 v495 v496 i
    = Ideal.cmp .ogt (k0_pay79 v204 v484 v488 v495 v496 i) (level 5) := rfl

/-- The printed upper level, but for the last two picks. -/
theorem k0_pay86_at : k0_pay86 v504 v535 v537 i = pick .oeq (k0_pay82 v504 v535 v537 i) (lit 0x40800000#32) (level 4)
    (pick .oeq (k0_pay82 v504 v535 v537 i) (lit 0x40400000#32) (level 3)
      (pick .oeq (k0_pay82 v504 v535 v537 i) (lit 0x40000000#32) (level 2) (level 1))) := rfl

/-- The printed comparison of the clipped number with five. -/
theorem k0_pay87_at : k0_pay87 v504 v535 v537 i = Ideal.cmp .oeq (k0_pay82 v504 v535 v537 i) (lit 0x40A00000#32) := rfl

/-- The printed lower level, but for the last pick. -/
theorem k0_pay88_at : k0_pay88 v504 v535 v537 i = pick .oeq (k0_pay82 v504 v535 v537 i) (lit 0x40A00000#32) (level 4)
    (pick .oeq (k0_pay82 v504 v535 v537 i) (lit 0x40800000#32) (level 3)
      (pick .oeq (k0_pay82 v504 v535 v537 i) (lit 0x40400000#32) (level 2)
        (pick .oeq (k0_pay82 v504 v535 v537 i) (lit 0x40000000#32) (level 1) (level 0)))) := rfl

/-- The printed sixth level. -/
theorem k0_pay89_at : k0_pay89 (F := Ideal) i = level 5 := rfl

end printed

section payloads

variable (x0 : Vec Ideal S64x512 .f32) (x1 : Vec Ideal S64x32 .f32) (x2 : Vec Ideal S512x512 .f32) (x3 : Vec Ideal S1x512 .f32)
  (x4 : Vec Ideal S7x512x256 .f32) (x5 : Vec Ideal S7x256 .f32) (x6 : Vec Ideal S7x256x128 .f32) (x7 : Vec Ideal S7x128 .f32)
  (x8 : Vec Ideal S7x128x96 .f32) (x9 : Vec Ideal S7x96 .f32) (i : S64x32.Idx)

/-- The clipped number of the block at one entry. -/
theorem pay145_at : k0_pay145 x0 x1 x2 x3 x4 x5 x6 x7 x8 x9 i = index (k0_pay142 x0 x1 x2 x3 x4 x5 x6 x7 x8 x9 i) := by
  unfold k0_pay145
  rw [k0_pay82_at]
  unfold k0_pay143 k0_pay144
  rw [k0_pay80_at, k0_pay81_at]
  unfold k0_pay142
  rfl

/-- The weight of the block at one entry. -/
theorem pay150_at : k0_pay150 x0 x1 x2 x3 x4 x5 x6 x7 x8 x9 i = wgt (k0_pay142 x0 x1 x2 x3 x4 x5 x6 x7 x8 x9 i) := by
  unfold k0_pay150
  rw [k0_pay90_at]
  unfold k0_pay146 k0_pay147 k0_pay148 k0_pay149
  rw [k0_pay86_at, k0_pay87_at, k0_pay88_at, k0_pay89_at]
  have e : k0_pay82 (k0_pay142 x0 x1 x2 x3 x4 x5 x6 x7 x8 x9) (k0_pay143 x0 x1 x2 x3 x4 x5 x6 x7 x8 x9) (k0_pay144 x0 x1 x2 x3 x4 x5 x6 x7 x8 x9) i = index (k0_pay142 x0 x1 x2 x3 x4 x5 x6 x7 x8 x9 i) := pay145_at x0 x1 x2 x3 x4 x5 x6 x7 x8 x9 i
  rw [pay145_at, e]
  rfl

/-- One less the weight, at one entry. -/
theorem pay151_at : k0_pay151 x0 x1 x2 x3 x4 x5 x6 x7 x8 x9 i = lit 0x3F800000#32 - k0_pay150 x0 x1 x2 x3 x4 x5 x6 x7 x8 x9 i := by
  unfold k0_pay151 k0_pay150
  rw [k0_pay91_at]

/-- The seven coefficients of the block at one entry. -/
def coefAt : Fin 7 → EReal :=
  ![k0_pay152 x0 x1 x2 x3 x4 x5 x6 x7 x8 x9 i, k0_pay153 x0 x1 x2 x3 x4 x5 x6 x7 x8 x9 i, k0_pay154 x0 x1 x2 x3 x4 x5 x6 x7 x8 x9 i, k0_pay155 x0 x1 x2 x3 x4 x5 x6 x7 x8 x9 i,
    k0_pay156 x0 x1 x2 x3 x4 x5 x6 x7 x8 x9 i, k0_pay157 x0 x1 x2 x3 x4 x5 x6 x7 x8 x9 i, k0_pay158 x0 x1 x2 x3 x4 x5 x6 x7 x8 x9 i]

/-- They are the coefficients of the sorted query at that entry. -/
theorem coefAt_eq : coefAt x0 x1 x2 x3 x4 x5 x6 x7 x8 x9 i = coef (index (k0_pay142 x0 x1 x2 x3 x4 x5 x6 x7 x8 x9 i)) (wgt (k0_pay142 x0 x1 x2 x3 x4 x5 x6 x7 x8 x9 i)) := by
  have e0 : k0_pay152 x0 x1 x2 x3 x4 x5 x6 x7 x8 x9 i = coef (k0_pay145 x0 x1 x2 x3 x4 x5 x6 x7 x8 x9 i) (k0_pay150 x0 x1 x2 x3 x4 x5 x6 x7 x8 x9 i) 0 := by
    unfold k0_pay152 k0_pay150
    rw [k0_pay92_at]
  have e1 : k0_pay153 x0 x1 x2 x3 x4 x5 x6 x7 x8 x9 i = coef (k0_pay145 x0 x1 x2 x3 x4 x5 x6 x7 x8 x9 i) (k0_pay150 x0 x1 x2 x3 x4 x5 x6 x7 x8 x9 i) 1 := by
    unfold k0_pay153 k0_pay150
    rw [k0_pay93_at]
  have e2 : k0_pay154 x0 x1 x2 x3 x4 x5 x6 x7 x8 x9 i = coef (k0_pay145 x0 x1 x2 x3 x4 x5 x6 x7 x8 x9 i) (k0_pay150 x0 x1 x2 x3 x4 x5 x6 x7 x8 x9 i) 2 := by
    unfold k0_pay154 k0_pay150
    rw [k0_pay96_at]
  have e3 : k0_pay155 x0 x1 x2 x3 x4 x5 x6 x7 x8 x9 i = coef (k0_pay145 x0 x1 x2 x3 x4 x5 x6 x7 x8 x9 i) (k0_pay150 x0 x1 x2 x3 x4 x5 x6 x7 x8 x9 i) 3 := by
    unfold k0_pay155
    rw [k0_pay97_at _ _ _ _ (pay151_at x0 x1 x2 x3 x4 x5 x6 x7 x8 x9 i)]
  have e4 : k0_pay156 x0 x1 x2 x3 x4 x5 x6 x7 x8 x9 i = coef (k0_pay145 x0 x1 x2 x3 x4 x5 x6 x7 x8 x9 i) (k0_pay150 x0 x1 x2 x3 x4 x5 x6 x7 x8 x9 i) 4 := by
    unfold k0_pay156
    rw [k0_pay98_at _ _ _ _ (pay151_at x0 x1 x2 x3 x4 x5 x6 x7 x8 x9 i)]
  have e5 : k0_pay157 x0 x1 x2 x3 x4 x5 x6 x7 x8 x9 i = coef (k0_pay145 x0 x1 x2 x3 x4 x5 x6 x7 x8 x9 i) (k0_pay150 x0 x1 x2 x3 x4 x5 x6 x7 x8 x9 i) 5 := by
    unfold k0_pay157
    rw [k0_pay99_at _ _ _ _ (pay151_at x0 x1 x2 x3 x4 x5 x6 x7 x8 x9 i)]
  have e6 : k0_pay158 x0 x1 x2 x3 x4 x5 x6 x7 x8 x9 i = coef (k0_pay145 x0 x1 x2 x3 x4 x5 x6 x7 x8 x9 i) (k0_pay150 x0 x1 x2 x3 x4 x5 x6 x7 x8 x9 i) 6 := by
    unfold k0_pay158
    rw [k0_pay100_at _ _ _ _ (pay151_at x0 x1 x2 x3 x4 x5 x6 x7 x8 x9 i)]
  unfold coefAt
  rw [e0, e1, e2, e3, e4, e5, e6, pay145_at, pay150_at]
  funext k
  match k with
  | 0 => rfl
  | 1 => rfl
  | 2 => rfl
  | 3 => rfl
  | 4 => rfl
  | 5 => rfl
  | 6 => rfl

end payloads

end Cert.Coef

end
-- ==== Proof.Slab.lean ====
/-
  THE KERNEL'S SLABS. The kernel makes its block of 64 rows in four slabs of 16 rows. Each entry of a slab is the sum of the seven
  products of that row's coefficients and sorted heads.
-/
module

public import proofs.«01_k».proof.Proof.Coef
public import Idealize.ShloMosaic.Lib.Pipeline.ValueKit.Tiles

@[expose] public section

noncomputable section

namespace Cert.Slab

open Idealize.ShloMosaic Cert.KernelIdeal Cert.KernelIdeal.Gen Cert.Coef

set_option maxRecDepth 16384

variable (s0 s1 s2 s3 s4 s5 s6 : FVec Ideal S64x96 .f32) (c0 c1 c2 c3 c4 c5 c6 : FVec Ideal S64x32 .f32)

/-- The sum of the seven products at row `r`, position `h` and query `t`. -/
def sumAt (r : Fin 64) (h : Fin 96) (t : Fin 32) : EReal :=
  combine ![c0 (ix2 r t), c1 (ix2 r t), c2 (ix2 r t), c3 (ix2 r t), c4 (ix2 r t), c5 (ix2 r t), c6 (ix2 r t)]
    ![s0 (ix2 r h), s1 (ix2 r h), s2 (ix2 r h), s3 (ix2 r h), s4 (ix2 r h), s5 (ix2 r h), s6 (ix2 r h)]

/-- The first slab at one entry. -/
theorem slab0 (b : Fin 16) (h : Fin 96) (t : Fin 32) (r : Fin 64) (hr : r.val = 0 + b.val) :
    k0_pay104 s6 s1 s2 s3 s4 s5 c1 c2 c3 c4 c5 c6 (k0_pay101 (F := Ideal)) (k0_pay102 c0) (k0_pay103 s0) (ix3 b h t)
      = sumAt s0 s1 s2 s3 s4 s5 s6 c0 c1 c2 c3 c4 c5 c6 r h t := by
  have e : r = ⟨0 + b.val, by have := b.isLt; omega⟩ := Fin.ext hr
  rw [e]
  pointwise [k0_pay104, k0_pay101, k0_pay102, k0_pay103]
  unfold sumAt
  rw [combine_vec, lit_0, EReal.coe_zero, zero_add]
  rfl

/-- The second slab at one entry. -/
theorem slab1 (b : Fin 16) (h : Fin 96) (t : Fin 32) (r : Fin 64) (hr : r.val = 16 + b.val) :
    k0_pay105 s6 s0 s1 s2 s3 s4 s5 c0 c1 c2 c3 c4 c5 c6 (Scalar.ofBits .f32 0x00000000#32) (ix3 b h t)
      = sumAt s0 s1 s2 s3 s4 s5 s6 c0 c1 c2 c3 c4 c5 c6 r h t := by
  have e : r = ⟨16 + b.val, by have := b.isLt; omega⟩ := Fin.ext hr
  rw [e]
  pointwise [k0_pay105]
  unfold sumAt
  rw [combine_vec, lit_0, EReal.coe_zero, zero_add]
  rfl

/-- The third slab at one entry. -/
theorem slab2 (b : Fin 16) (h : Fin 96) (t : Fin 32) (r : Fin 64) (hr : r.val = 32 + b.val) :
    k0_pay108 (k0_pay106 s0 s1 s2 s3 s4 s5 c0 c1 c2 c3 c4 c5) (k0_pay107 s6 c6) (ix3 b h t)
      = sumAt s0 s1 s2 s3 s4 s5 s6 c0 c1 c2 c3 c4 c5 c6 r h t := by
  have e : r = ⟨32 + b.val, by have := b.isLt; omega⟩ := Fin.ext hr
  rw [e]
  pointwise [k0_pay108, k0_pay106, k0_pay107]
  unfold sumAt
  rw [combine_vec, lit_0, EReal.coe_zero, zero_add]
  rfl

/-- The fourth slab at one entry. -/
theorem slab3 (b : Fin 16) (h : Fin 96) (t : Fin 32) (r : Fin 64) (hr : r.val = 48 + b.val) :
    k0_pay1 (k0_pay109 s0 s1 s2 s3 s4 s5 c0 c1 c2 c3 c4 c5) (k0_pay110 c6) (k0_pay111 s6) (ix3 b h t)
      = sumAt s0 s1 s2 s3 s4 s5 s6 c0 c1 c2 c3 c4 c5 c6 r h t := by
  have e : r = ⟨48 + b.val, by have := b.isLt; omega⟩ := Fin.ext hr
  rw [e]
  pointwise [k0_pay1, k0_pay109, k0_pay110, k0_pay111]
  unfold sumAt
  rw [combine_vec, lit_0, EReal.coe_zero, zero_add]
  rfl

section block

variable (x0 : Vec Ideal S64x512 .f32) (x1 : Vec Ideal S64x32 .f32) (x2 : Vec Ideal S512x512 .f32) (x3 : Vec Ideal S1x512 .f32)
  (x4 : Vec Ideal S7x512x256 .f32) (x5 : Vec Ideal S7x256 .f32) (x6 : Vec Ideal S7x256x128 .f32) (x7 : Vec Ideal S7x128 .f32)
  (x8 : Vec Ideal S7x128x96 .f32) (x9 : Vec Ideal S7x96 .f32)

/-- The sum of the seven products in the block. -/
def blockSum (r : Fin 64) (h : Fin 96) (t : Fin 32) : EReal :=
  sumAt (k0_pay122 x0 x1 x2 x3 x4 x5 x6 x7 x8 x9) (k0_pay123 x0 x1 x2 x3 x4 x5 x6 x7 x8 x9) (k0_pay124 x0 x1 x2 x3 x4 x5 x6 x7 x8 x9)
    (k0_pay125 x0 x1 x2 x3 x4 x5 x6 x7 x8 x9) (k0_pay126 x0 x1 x2 x3 x4 x5 x6 x7 x8 x9) (k0_pay127 x0 x1 x2 x3 x4 x5 x6 x7 x8 x9)
    (k0_pay121 x0 x1 x2 x3 x4 x5 x6 x7 x8 x9) (k0_pay152 x0 x1 x2 x3 x4 x5 x6 x7 x8 x9) (k0_pay153 x0 x1 x2 x3 x4 x5 x6 x7 x8 x9)
    (k0_pay154 x0 x1 x2 x3 x4 x5 x6 x7 x8 x9) (k0_pay155 x0 x1 x2 x3 x4 x5 x6 x7 x8 x9) (k0_pay156 x0 x1 x2 x3 x4 x5 x6 x7 x8 x9)
    (k0_pay157 x0 x1 x2 x3 x4 x5 x6 x7 x8 x9) (k0_pay158 x0 x1 x2 x3 x4 x5 x6 x7 x8 x9) r h t

/-- The block the kernel leaves holds at every entry the sum of the seven products. -/
theorem out_sum (r : Fin 64) (h : Fin 96) (t : Fin 32) :
    out0_10 x0 x1 x2 x3 x4 x5 x6 x7 x8 x9 (ix3 r h t) = blockSum x0 x1 x2 x3 x4 x5 x6 x7 x8 x9 r h t := by
  unfold out0_10
  refine View.canon_eq_of_allAt _ _ _ (cover0_10 _ _ _ _ _) ?_
  refine View.allAt_cons_unit _ _ _ _ _ ?_ (View.allAt_cons_unit _ _ _ _ _ ?_ (View.allAt_cons_unit _ _ _ _ _ ?_
    (View.allAt_cons_unit _ _ _ _ _ ?_ (fun _ h => absurd h List.not_mem_nil))))
  · intro x hx
    have e0 := hx 0
    have e1 := hx 1
    have e2 := hx 2
    obtain ⟨b, h', t', rfl⟩ : ∃ (b : Fin 16) (h' : Fin 96) (t' : Fin 32), x = ix3 b h' t' :=
      ⟨x 0, x 1, x 2, eq_ix3 x⟩
    obtain rfl : h = h' := Fin.ext (e1.trans (Nat.zero_add _))
    obtain rfl : t = t' := Fin.ext (e2.trans (Nat.zero_add _))
    exact slab3 _ _ _ _ _ _ _ _ _ _ _ _ _ _ b h t r e0
  · intro x hx
    have e0 := hx 0
    have e1 := hx 1
    have e2 := hx 2
    obtain ⟨b, h', t', rfl⟩ : ∃ (b : Fin 16) (h' : Fin 96) (t' : Fin 32), x = ix3 b h' t' :=
      ⟨x 0, x 1, x 2, eq_ix3 x⟩
    obtain rfl : h = h' := Fin.ext (e1.trans (Nat.zero_add _))
    obtain rfl : t = t' := Fin.ext (e2.trans (Nat.zero_add _))
    exact slab2 _ _ _ _ _ _ _ _ _ _ _ _ _ _ b h t r e0
  · intro x hx
    have e0 := hx 0
    have e1 := hx 1
    have e2 := hx 2
    obtain ⟨b, h', t', rfl⟩ : ∃ (b : Fin 16) (h' : Fin 96) (t' : Fin 32), x = ix3 b h' t' :=
      ⟨x 0, x 1, x 2, eq_ix3 x⟩
    obtain rfl : h = h' := Fin.ext (e1.trans (Nat.zero_add _))
    obtain rfl : t = t' := Fin.ext (e2.trans (Nat.zero_add _))
    exact slab1 _ _ _ _ _ _ _ _ _ _ _ _ _ _ b h t r e0
  · intro x hx
    have e0 := hx 0
    have e1 := hx 1
    have e2 := hx 2
    obtain ⟨b, h', t', rfl⟩ : ∃ (b : Fin 16) (h' : Fin 96) (t' : Fin 32), x = ix3 b h' t' :=
      ⟨x 0, x 1, x 2, eq_ix3 x⟩
    obtain rfl : h = h' := Fin.ext (e1.trans (Nat.zero_add _))
    obtain rfl : t = t' := Fin.ext (e2.trans (Nat.zero_add _))
    exact slab0 _ _ _ _ _ _ _ _ _ _ _ _ _ _ b h t r e0

end block

end Cert.Slab

end
-- ==== Proof.Heads.lean ====
/-
  THE HEADS. One batch row's features, and the number that one head gives at one position of the horizon, as finite sums. The block the
  kernel computes holds exactly these numbers.
-/
module

public import proofs.«01_k».proof.Proof.Gen.KernelIdeal.Frame
public import Idealize.ShloMosaic.Lib.Pointwise

@[expose] public section

noncomputable section

namespace Cert.Heads

open Idealize.ShloMosaic

/-- A linear layer with bias. -/
def lin {n m : Nat} (a : Fin n → EReal) (W : Fin n → Fin m → EReal) (b : Fin m → EReal) : Fin m → EReal :=
  fun j => (∑ k, a k * W k j) + b j

/-- The positive part. -/
def relu {n : Nat} (a : Fin n → EReal) : Fin n → EReal := fun j => max (a j) 0

/-- One head: three linear layers with the positive part after the first two. -/
def head (f : Fin 512 → EReal) (W1 : Fin 512 → Fin 256 → EReal) (b1 : Fin 256 → EReal) (W2 : Fin 256 → Fin 128 → EReal)
    (b2 : Fin 128 → EReal) (W3 : Fin 128 → Fin 96 → EReal) (b3 : Fin 96 → EReal) : Fin 96 → EReal :=
  lin (relu (lin (relu (lin f W1 b1)) W2 b2)) W3 b3

open Cert.KernelIdeal Cert.KernelIdeal.Gen

/-- The kernel's features of a block. -/
theorem pay2_at (v0 : Vec Ideal S64x512 .f32) (v1 : Vec Ideal S512x512 .f32) (v3 : Vec Ideal S1x512 .f32) (r : Fin 64) (d : Fin 512) :
    k0_pay2 v0 v1 v3 (ix2 r d) = lin (fun k => v0 (ix2 r k)) (fun k j => v1 (ix2 k j)) (fun j => v3 (ix2 0 j)) d := by
  pointwise [k0_pay2]
  rfl

/-- The kernel's head of a block. -/
theorem pay10_at (v6 : FVec Ideal S64x512 .f32) (v95 : Vec Ideal S1x512x256 .f32) (v98 : Vec Ideal S1x256 .f32)
    (v103 : Vec Ideal S1x256x128 .f32) (v106 : Vec Ideal S1x128 .f32) (v111 : Vec Ideal S1x128x96 .f32) (v114 : Vec Ideal S1x96 .f32)
    (r : Fin 64) (h : Fin 96) :
    k0_pay10 v6 v95 v98 v103 v106 v111 v114 (ix2 r h)
      = head (fun d => v6 (ix2 r d)) (fun d k => v95 (ix3 0 d k)) (fun k => v98 (ix2 0 k)) (fun k m => v103 (ix3 0 k m))
          (fun m => v106 (ix2 0 m)) (fun m h => v111 (ix3 0 m h)) (fun h => v114 (ix2 0 h)) h := by
  pointwise [k0_pay10]
  rfl

section block

variable (x0 : Vec Ideal S64x512 .f32) (x1 : Vec Ideal S64x32 .f32) (x2 : Vec Ideal S512x512 .f32) (x3 : Vec Ideal S1x512 .f32)
  (x4 : Vec Ideal S7x512x256 .f32) (x5 : Vec Ideal S7x256 .f32) (x6 : Vec Ideal S7x256x128 .f32) (x7 : Vec Ideal S7x128 .f32)
  (x8 : Vec Ideal S7x128x96 .f32) (x9 : Vec Ideal S7x96 .f32) (r : Fin 64) (h : Fin 96)

/-- The head `j` of the row `r`, from the blocks the kernel reads. -/
def blockHead (j : Fin 7) : EReal :=
  head (lin (fun k => x0 (ix2 r k)) (fun k d => x2 (ix2 k d)) (fun d => x3 (ix2 0 d))) (fun d k => x4 (ix3 j d k))
    (fun k => x5 (ix2 j k)) (fun k m => x6 (ix3 j k m)) (fun m => x7 (ix2 j m)) (fun m h => x8 (ix3 j m h)) (fun h => x9 (ix2 j h)) h

/-- The features of the block. -/
theorem pay112_at (d : Fin 512) : k0_pay112 x0 x1 x2 x3 x4 x5 x6 x7 x8 x9 (ix2 r d)
    = lin (fun k => x0 (ix2 r k)) (fun k d => x2 (ix2 k d)) (fun d => x3 (ix2 0 d)) d := by
  unfold k0_pay112
  rw [pay2_at]
  pointwise

/-- A head of the block, from the slices of the six parameter arrays that belong to it. -/
theorem pay10_block (j : Fin 7) (i4 : ∀ a, (![j.val, 0, 0] : Fin 3 → Nat) a + S1x512x256.size a ≤ S7x512x256.size a)
    (i5 : ∀ a, (![j.val, 0] : Fin 2 → Nat) a + S1x256.size a ≤ S7x256.size a)
    (i6 : ∀ a, (![j.val, 0, 0] : Fin 3 → Nat) a + S1x256x128.size a ≤ S7x256x128.size a)
    (i7 : ∀ a, (![j.val, 0] : Fin 2 → Nat) a + S1x128.size a ≤ S7x128.size a)
    (i8 : ∀ a, (![j.val, 0, 0] : Fin 3 → Nat) a + S1x128x96.size a ≤ S7x128x96.size a)
    (i9 : ∀ a, (![j.val, 0] : Fin 2 → Nat) a + S1x96.size a ≤ S7x96.size a) :
    k0_pay10 (k0_pay112 x0 x1 x2 x3 x4 x5 x6 x7 x8 x9) (View.ld x4 (Rect.unit (s := S7x512x256) ![j.val, 0, 0] S1x512x256.size i4))
        (View.ld x5 (Rect.unit (s := S7x256) ![j.val, 0] S1x256.size i5))
        (View.ld x6 (Rect.unit (s := S7x256x128) ![j.val, 0, 0] S1x256x128.size i6))
        (View.ld x7 (Rect.unit (s := S7x128) ![j.val, 0] S1x128.size i7))
        (View.ld x8 (Rect.unit (s := S7x128x96) ![j.val, 0, 0] S1x128x96.size i8))
        (View.ld x9 (Rect.unit (s := S7x96) ![j.val, 0] S1x96.size i9)) (ix2 r h)
      = blockHead x0 x2 x3 x4 x5 x6 x7 x8 x9 r h j := by
  have e4 : ∀ d k, View.ld x4 (Rect.unit (s := S7x512x256) ![j.val, 0, 0] S1x512x256.size i4) (ix3 0 d k) = x4 (ix3 j d k) := by
    intro d k
    pointwise
  have e5 : ∀ k, View.ld x5 (Rect.unit (s := S7x256) ![j.val, 0] S1x256.size i5) (ix2 0 k) = x5 (ix2 j k) := by
    intro k
    pointwise
  have e6 : ∀ k m, View.ld x6 (Rect.unit (s := S7x256x128) ![j.val, 0, 0] S1x256x128.size i6) (ix3 0 k m) = x6 (ix3 j k m) := by
    intro k m
    pointwise
  have e7 : ∀ m, View.ld x7 (Rect.unit (s := S7x128) ![j.val, 0] S1x128.size i7) (ix2 0 m) = x7 (ix2 j m) := by
    intro m
    pointwise
  have e8 : ∀ m h, View.ld x8 (Rect.unit (s := S7x128x96) ![j.val, 0, 0] S1x128x96.size i8) (ix3 0 m h) = x8 (ix3 j m h) := by
    intro m h
    pointwise
  have e9 : ∀ h, View.ld x9 (Rect.unit (s := S7x96) ![j.val, 0] S1x96.size i9) (ix2 0 h) = x9 (ix2 j h) := by
    intro h
    pointwise
  rw [pay10_at]
  simp only [pay112_at, e4, e5, e6, e7, e8, e9]
  rfl

/-- The first head of the block. -/
theorem pay113_at : k0_pay113 x0 x1 x2 x3 x4 x5 x6 x7 x8 x9 (ix2 r h) = blockHead x0 x2 x3 x4 x5 x6 x7 x8 x9 r h 0 :=
  Eq.trans (b := k0_pay10 (k0_pay112 x0 x1 x2 x3 x4 x5 x6 x7 x8 x9) (View.ld x4 r0_3) (View.ld x5 r0_4) (View.ld x6 r0_5) (View.ld x7 r0_6)
    (View.ld x8 r0_7) (View.ld x9 r0_8) (ix2 r h)) rfl (pay10_block x0 x1 x2 x3 x4 x5 x6 x7 x8 x9 r h 0 _ _ _ _ _ _)

/-- The second head of the block. -/
theorem pay114_at : k0_pay114 x0 x1 x2 x3 x4 x5 x6 x7 x8 x9 (ix2 r h) = blockHead x0 x2 x3 x4 x5 x6 x7 x8 x9 r h 1 :=
  Eq.trans (b := k0_pay10 (k0_pay112 x0 x1 x2 x3 x4 x5 x6 x7 x8 x9) (View.ld x4 r0_9) (View.ld x5 r0_10) (View.ld x6 r0_11) (View.ld x7 r0_12)
    (View.ld x8 r0_13) (View.ld x9 r0_14) (ix2 r h)) rfl (pay10_block x0 x1 x2 x3 x4 x5 x6 x7 x8 x9 r h 1 _ _ _ _ _ _)

/-- The third head of the block. -/
theorem pay115_at : k0_pay115 x0 x1 x2 x3 x4 x5 x6 x7 x8 x9 (ix2 r h) = blockHead x0 x2 x3 x4 x5 x6 x7 x8 x9 r h 2 :=
  Eq.trans (b := k0_pay10 (k0_pay112 x0 x1 x2 x3 x4 x5 x6 x7 x8 x9) (View.ld x4 r0_15) (View.ld x5 r0_16) (View.ld x6 r0_17) (View.ld x7 r0_18)
    (View.ld x8 r0_19) (View.ld x9 r0_20) (ix2 r h)) rfl (pay10_block x0 x1 x2 x3 x4 x5 x6 x7 x8 x9 r h 2 _ _ _ _ _ _)

/-- The fourth head of the block. -/
theorem pay116_at : k0_pay116 x0 x1 x2 x3 x4 x5 x6 x7 x8 x9 (ix2 r h) = blockHead x0 x2 x3 x4 x5 x6 x7 x8 x9 r h 3 :=
  Eq.trans (b := k0_pay10 (k0_pay112 x0 x1 x2 x3 x4 x5 x6 x7 x8 x9) (View.ld x4 r0_21) (View.ld x5 r0_22) (View.ld x6 r0_23) (View.ld x7 r0_24)
    (View.ld x8 r0_25) (View.ld x9 r0_26) (ix2 r h)) rfl (pay10_block x0 x1 x2 x3 x4 x5 x6 x7 x8 x9 r h 3 _ _ _ _ _ _)

/-- The fifth head of the block. -/
theorem pay117_at : k0_pay117 x0 x1 x2 x3 x4 x5 x6 x7 x8 x9 (ix2 r h) = blockHead x0 x2 x3 x4 x5 x6 x7 x8 x9 r h 4 :=
  Eq.trans (b := k0_pay10 (k0_pay112 x0 x1 x2 x3 x4 x5 x6 x7 x8 x9) (View.ld x4 r0_27) (View.ld x5 r0_28) (View.ld x6 r0_29) (View.ld x7 r0_30)
    (View.ld x8 r0_31) (View.ld x9 r0_32) (ix2 r h)) rfl (pay10_block x0 x1 x2 x3 x4 x5 x6 x7 x8 x9 r h 4 _ _ _ _ _ _)

/-- The sixth head of the block. -/
theorem pay118_at : k0_pay118 x0 x1 x2 x3 x4 x5 x6 x7 x8 x9 (ix2 r h) = blockHead x0 x2 x3 x4 x5 x6 x7 x8 x9 r h 5 :=
  Eq.trans (b := k0_pay10 (k0_pay112 x0 x1 x2 x3 x4 x5 x6 x7 x8 x9) (View.ld x4 r0_33) (View.ld x5 r0_34) (View.ld x6 r0_35) (View.ld x7 r0_36)
    (View.ld x8 r0_37) (View.ld x9 r0_38) (ix2 r h)) rfl (pay10_block x0 x1 x2 x3 x4 x5 x6 x7 x8 x9 r h 5 _ _ _ _ _ _)

/-- The seventh head of the block. -/
theorem pay14_block : k0_pay14 (k0_pay119 x0 x1 x2 x3 x4 x5 x6 x7 x8 x9) (View.ld x8 r0_43) (View.ld x9 r0_44) (ix2 r h) = blockHead x0 x2 x3 x4 x5 x6 x7 x8 x9 r h 6 :=
  Eq.trans (b := k0_pay10 (k0_pay112 x0 x1 x2 x3 x4 x5 x6 x7 x8 x9) (View.ld x4 r0_39) (View.ld x5 r0_40) (View.ld x6 r0_41) (View.ld x7 r0_42)
    (View.ld x8 r0_43) (View.ld x9 r0_44) (ix2 r h)) rfl (pay10_block x0 x1 x2 x3 x4 x5 x6 x7 x8 x9 r h 6 _ _ _ _ _ _)

end block

end Cert.Heads

end
-- ==== Proof.BlockValue.lean ====
/-
  THE BLOCK. One block of the kernel's result: along the horizon's query axis every fibre is a sorting of the interpolated values, read
  from a sorting of the seven heads.
-/
module

public import proofs.«01_k».proof.Proof.LaneSort
public import proofs.«01_k».proof.Proof.Sort7
public import proofs.«01_k».proof.Proof.Slab
public import proofs.«01_k».proof.Proof.Heads

@[expose] public section

noncomputable section

namespace Cert.BlockValue

open Idealize.ShloMosaic Cert.KernelIdeal Cert.KernelIdeal.Gen Cert.SortFiber Cert.Interp Cert.Coef Cert.Slab Cert.Heads Cert.Sort7
  Cert.LaneSort

variable (x0 : Vec Ideal S64x512 .f32) (x1 : Vec Ideal S64x32 .f32) (x2 : Vec Ideal S512x512 .f32) (x3 : Vec Ideal S1x512 .f32)
  (x4 : Vec Ideal S7x512x256 .f32) (x5 : Vec Ideal S7x256 .f32) (x6 : Vec Ideal S7x256x128 .f32) (x7 : Vec Ideal S7x128 .f32)
  (x8 : Vec Ideal S7x128x96 .f32) (x9 : Vec Ideal S7x96 .f32) (r : Fin 64) (h : Fin 96)

/-- The block's heads in increasing order, at one row and one position of the horizon. -/
def blockSorted : Fin 7 → EReal :=
  sortedAt (k0_pay113 x0 x1 x2 x3 x4 x5 x6 x7 x8 x9) (k0_pay114 x0 x1 x2 x3 x4 x5 x6 x7 x8 x9) (k0_pay115 x0 x1 x2 x3 x4 x5 x6 x7 x8 x9)
    (k0_pay116 x0 x1 x2 x3 x4 x5 x6 x7 x8 x9) (k0_pay117 x0 x1 x2 x3 x4 x5 x6 x7 x8 x9) (k0_pay118 x0 x1 x2 x3 x4 x5 x6 x7 x8 x9)
    (k0_pay119 x0 x1 x2 x3 x4 x5 x6 x7 x8 x9) (View.ld x8 r0_43) (View.ld x9 r0_44) (ix2 r h)

/-- It is a sorting of the seven heads. -/
theorem blockSorted_isSortOf :
    IsSortOf (blockSorted x0 x1 x2 x3 x4 x5 x6 x7 x8 x9 r h) (fun j => blockHead x0 x2 x3 x4 x5 x6 x7 x8 x9 r h j) := by
  have e := sort7_isSortOf (k0_pay113 x0 x1 x2 x3 x4 x5 x6 x7 x8 x9) (k0_pay114 x0 x1 x2 x3 x4 x5 x6 x7 x8 x9)
    (k0_pay115 x0 x1 x2 x3 x4 x5 x6 x7 x8 x9) (k0_pay116 x0 x1 x2 x3 x4 x5 x6 x7 x8 x9) (k0_pay117 x0 x1 x2 x3 x4 x5 x6 x7 x8 x9)
    (k0_pay118 x0 x1 x2 x3 x4 x5 x6 x7 x8 x9) (k0_pay119 x0 x1 x2 x3 x4 x5 x6 x7 x8 x9) (View.ld x8 r0_43) (View.ld x9 r0_44) (ix2 r h)
  have e' : (fun j => blockHead x0 x2 x3 x4 x5 x6 x7 x8 x9 r h j)
      = headsAt (k0_pay113 x0 x1 x2 x3 x4 x5 x6 x7 x8 x9) (k0_pay114 x0 x1 x2 x3 x4 x5 x6 x7 x8 x9)
        (k0_pay115 x0 x1 x2 x3 x4 x5 x6 x7 x8 x9) (k0_pay116 x0 x1 x2 x3 x4 x5 x6 x7 x8 x9) (k0_pay117 x0 x1 x2 x3 x4 x5 x6 x7 x8 x9)
        (k0_pay118 x0 x1 x2 x3 x4 x5 x6 x7 x8 x9) (k0_pay119 x0 x1 x2 x3 x4 x5 x6 x7 x8 x9) (View.ld x8 r0_43) (View.ld x9 r0_44)
        (ix2 r h) := by
    unfold headsAt
    rw [pay113_at, pay114_at, pay115_at, pay116_at, pay117_at, pay118_at, pay14_block]
    funext j
    fin_cases j <;> rfl
  rw [e']
  exact e

/-- The seven printed head blocks at one entry are the sorted heads. -/
theorem blockSorted_eq : ![k0_pay122 x0 x1 x2 x3 x4 x5 x6 x7 x8 x9 (ix2 r h), k0_pay123 x0 x1 x2 x3 x4 x5 x6 x7 x8 x9 (ix2 r h),
    k0_pay124 x0 x1 x2 x3 x4 x5 x6 x7 x8 x9 (ix2 r h), k0_pay125 x0 x1 x2 x3 x4 x5 x6 x7 x8 x9 (ix2 r h),
    k0_pay126 x0 x1 x2 x3 x4 x5 x6 x7 x8 x9 (ix2 r h), k0_pay127 x0 x1 x2 x3 x4 x5 x6 x7 x8 x9 (ix2 r h),
    k0_pay121 x0 x1 x2 x3 x4 x5 x6 x7 x8 x9 (ix2 r h)] = blockSorted x0 x1 x2 x3 x4 x5 x6 x7 x8 x9 r h := by
  unfold blockSorted sortedAt k0_pay121 k0_pay122 k0_pay123 k0_pay124 k0_pay125 k0_pay126 k0_pay127
  rfl

/-- Every entry of the block is the interpolation of the sorted heads at the sorted query. -/
theorem out_interp (t : Fin 32) : out0_10 x0 x1 x2 x3 x4 x5 x6 x7 x8 x9 (ix3 r h t)
    = Interp.interp (blockSorted x0 x1 x2 x3 x4 x5 x6 x7 x8 x9 r h) (sortedBlock (View.ld x1 r0_45) (ix2 r t)) := by
  have e := coefAt_eq x0 x1 x2 x3 x4 x5 x6 x7 x8 x9 (ix2 r t)
  unfold coefAt at e
  rw [out_sum]
  unfold blockSum sumAt
  rw [e, blockSorted_eq, combine_eq, pay142_eq]

/-- Along the query axis the block is a sorting of the interpolated values. -/
theorem out_isSortOf : IsSortOf (fun t => out0_10 x0 x1 x2 x3 x4 x5 x6 x7 x8 x9 (ix3 r h t))
    (fun t => Interp.interp (blockSorted x0 x1 x2 x3 x4 x5 x6 x7 x8 x9 r h) (x1 (ix2 r t))) := by
  have e := (sortedBlock_isSortOf (View.ld x1 r0_45) r).map (f := Interp.interp (blockSorted x0 x1 x2 x3 x4 x5 x6 x7 x8 x9 r h))
    (interp_mono (blockSorted_isSortOf x0 x1 x2 x3 x4 x5 x6 x7 x8 x9 r h).1)
  have e1 : ∀ t, View.ld x1 r0_45 (ix2 r t) = x1 (ix2 r t) := by
    intro t
    pointwise
  simp only [out_interp]
  simpa only [Function.comp_def, e1] using e

end Cert.BlockValue

end
-- ==== Proof.RefOps.lean ====
/-
  THE REFERENCE'S ARRAYS. The arrays the reference program builds one after another, each as a function of the arrays before it, and its
  result as their composition.
-/
module

public import proofs.«01_k».proof.Proof.Gen.ReferenceIdeal.Run
public import Idealize.ShloMosaic.PureOps.Ideal

@[expose] public section

noncomputable section

namespace Cert.Ref

open Idealize.ShloMosaic Cert.ReferenceIdeal Cert.ReferenceIdeal.Gen Idealize.ShloMosaic.TcCoe

variable (x0 : FVec Ideal S8192x512 .f32) (q : FVec Ideal S8192x32 .f32) (x2 : FVec Ideal S512x512 .f32) (x3 : FVec Ideal S512 .f32)
  (x4 : FVec Ideal S7x512x256 .f32) (x5 : FVec Ideal S7x256 .f32) (x6 : FVec Ideal S7x256x128 .f32) (x7 : FVec Ideal S7x128 .f32)
  (x8 : FVec Ideal S7x128x96 .f32) (x9 : FVec Ideal S7x96 .f32) (k : IVec S8192x32 32) (s : FVec Ideal S8192x96x7 .f32)

/-- The features of every batch row. -/
def feats : FVec Ideal S8192x512 .f32 :=
  addf (Host.dotGeneral dot_S8192x512_S512x512_S8192x512_1_0_0_1_n_n none x0 x2)
    (broadcastInDim S8192x512 ![0, 1] bcast_S1x512_S8192x512_0_1 (broadcastInDim S1x512 ![1] bcast_S512_S1x512_1 x3))

/-- The first layer of every head. -/
def layer1 (f : FVec Ideal S8192x512 .f32) : FVec Ideal S8192x7x256 .f32 :=
  maximumf (addf (Host.dotGeneral dot_S8192x512_S7x512x256_S8192x7x256_1_1_0_02_n_n none f x4)
    (broadcastInDim S8192x7x256 ![0, 1, 2] bcast_S1x7x256_S8192x7x256_0_1_2 (broadcastInDim S1x7x256 ![1, 2] bcast_S7x256_S1x7x256_1_2 x5)))
    (broadcastInDim S8192x7x256 ![] bcast_S_S8192x7x256 (constant S_ .f32 0x00000000#32))

/-- The second layer of every head. -/
def layer2 (a : FVec Ideal S8192x7x256 .f32) : FVec Ideal S8192x7x128 .f32 :=
  maximumf (addf (transpose S8192x7x128 [2, 0, 1] (Host.dotGeneral dot_S7x256x128_S8192x7x256_S7x128x8192_1_2_2_0_0_1 none x6 a)
      transposes_S7x128x8192_S8192x7x128_2_0_1)
    (broadcastInDim S8192x7x128 ![0, 1, 2] bcast_S1x7x128_S8192x7x128_0_1_2 (broadcastInDim S1x7x128 ![1, 2] bcast_S7x128_S1x7x128_1_2 x7)))
    (broadcastInDim S8192x7x128 ![] bcast_S_S8192x7x128 (constant S_ .f32 0x00000000#32))

/-- The third layer of every head. -/
def layer3 (a : FVec Ideal S8192x7x128 .f32) : FVec Ideal S8192x96x7 .f32 :=
  transpose S8192x96x7 [0, 2, 1]
    (addf (transpose S8192x7x96 [2, 0, 1] (Host.dotGeneral dot_S7x128x96_S8192x7x128_S7x96x8192_1_2_2_0_0_1 none x8 a)
        transposes_S7x96x8192_S8192x7x96_2_0_1)
      (broadcastInDim S8192x7x96 ![0, 1, 2] bcast_S1x7x96_S8192x7x96_0_1_2 (broadcastInDim S1x7x96 ![1, 2] bcast_S7x96_S1x7x96_1_2 x9)))
    transposes_S8192x7x96_S8192x96x7_0_2_1

/-- The seven heads at every batch row and every position of the horizon. -/
def heads : FVec Ideal S8192x96x7 .f32 := layer3 x8 x9 (layer2 x6 x7 (layer1 x4 x5 (feats x0 x2 x3)))

/-- The seven quantile levels. -/
def levels : FVec Ideal S7 .f32 := fun i => FloatOps.ofBits .f32 (lit0 (S7.rowMajor i))

/-- The number of levels below each query. -/
def count : IVec S8192x32 32 :=
  Host.reduce IntOp.addi (extui 32 (cmpf .olt
      (broadcastInDim S8192x32x7 ![0, 1, 2] bcast_S1x1x7_S8192x32x7_0_1_2 (broadcastInDim S1x1x7 ![2] bcast_S7_S1x1x7_2 levels))
      (broadcastInDim S8192x32x7 ![0, 1, 2] bcast_S8192x32x1_S8192x32x7_0_1_2
        (broadcastInDim S8192x32x1 ![0, 1] bcast_S8192x32_S8192x32x1_0_1 q))) natLt_1_32)
    (constantI S_ 32 0#32) reducesTo_S8192x32x7_S8192x32_d2 h_S_

/-- The upper neighbour's position. -/
def hi : IVec S8192x32 32 :=
  minsi (broadcastInDim S8192x32 ![] bcast_S_S8192x32 (constantI S_ 32 6#32))
    (maxsi (broadcastInDim S8192x32 ![] bcast_S_S8192x32 (constantI S_ 32 1#32)) (count q))

/-- The lower neighbour's position. -/
def lo : IVec S8192x32 32 := subi (hi q) (broadcastInDim S8192x32 ![] bcast_S_S8192x32 (constantI S_ 32 1#32))

/-- The levels at given positions. -/
def levelAt : FVec Ideal S8192x32 .f32 :=
  Host.gather gather_S7_S8192x32x1_S8192x32_n_0_n_n_0_2_1 levels (broadcastInDim S8192x32x1 ![0, 1] bcast_S8192x32_S8192x32x1_0_1
    (select (cmpi .slt k (broadcastInDim S8192x32 ![] bcast_S_S8192x32 (constantI S_ 32 0#32)))
      (addi k (broadcastInDim S8192x32 ![] bcast_S_S8192x32 (constantI S_ 32 7#32))) k))

/-- The weight of the upper neighbour. -/
def weights : FVec Ideal S8192x32 .f32 :=
  Host.divf (subf q (levelAt (lo q))) (addf (subf (levelAt (hi q)) (levelAt (lo q)))
    (broadcastInDim S8192x32 ![] bcast_S_S8192x32 (constant S_ .f32 0x322BCC77#32)))

/-- The positions at which the sorted heads are read. -/
def places : IVec S8192x32x1 32 :=
  shapeCast _ (select (cmpi .slt (broadcastInDim S8192x1x32 ![0, 2] bcast_S8192x32_S8192x1x32_0_2 k)
      (broadcastInDim S8192x1x32 ![] bcast_S_S8192x1x32 (constantI S_ 32 0#32)))
    (addi (broadcastInDim S8192x1x32 ![0, 2] bcast_S8192x32_S8192x1x32_0_2 k)
      (broadcastInDim S8192x1x32 ![] bcast_S_S8192x1x32 (constantI S_ 32 7#32)))
    (broadcastInDim S8192x1x32 ![0, 2] bcast_S8192x32_S8192x1x32_0_2 k)) shapeCasts_S8192x1x32_S8192x32x1

/-- Whether the positions lie in the row of seven. -/
def inside (p : IVec S8192x32x1 32) : IVec S8192x32 1 :=
  Host.reduce IntOp.andi (andi (cmpi .sge p (broadcastInDim S8192x32x1 ![] bcast_S_S8192x32x1 (constantI S_ 32 0#32)))
      (cmpi .sle p (broadcastInDim S8192x32x1 ![0, 1, 2] bcast_S1x1x1_S8192x32x1_0_1_2
        (broadcastInDim S1x1x1 ![2] bcast_S1_S1x1x1_2 (constantI S1 32 6#32)))))
    (constantI S_ 1 1#1) reducesTo_S8192x32x1_S8192x32_d2 h_S_

/-- The sorted heads at given positions. -/
def taken : FVec Ideal S8192x96x32 .f32 :=
  select (broadcastInDim S8192x96x32 ![0, 2] bcast_S8192x32_S8192x96x32_0_2 (inside (places k)))
    (Host.gather gather_S8192x96x7_S8192x32x1_S8192x96x32_1_2_0_0_2_2_1961 s (places k))
    (broadcastInDim S8192x96x32 ![] bcast_S_S8192x96x32 (constant S_ .f32 0x7FC00000#32))

/-- An array over the queries, repeated along the horizon. -/
def along {α : Type} (w : S8192x32.Idx → α) : S8192x96x32.Idx → α :=
  broadcastInDim S8192x96x32 ![0, 1, 2] bcast_S8192x1x32_S8192x96x32_0_1_2 (broadcastInDim S8192x1x32 ![0, 2] bcast_S8192x32_S8192x1x32_0_2 w)

/-- The straight line between the two neighbours. -/
def line : FVec Ideal S8192x96x32 .f32 :=
  addf (mulf (along (subf (broadcastInDim S8192x32 ![] bcast_S_S8192x32 (constant S_ .f32 0x3F800000#32)) (weights q))) (taken (lo q) s))
    (mulf (along (weights q)) (taken (hi q) s))

/-- The first level, for every query. -/
def first : FVec Ideal S8192x32 .f32 :=
  broadcastInDim S8192x32 ![] bcast_S_S8192x32 (shapeCast _ (extractStridedSlice S1 ![0] levels slices_S7_S1_0) shapeCasts_S1_S_)

/-- The last level, for every query. -/
def last : FVec Ideal S8192x32 .f32 :=
  broadcastInDim S8192x32 ![] bcast_S_S8192x32 (shapeCast _ (extractStridedSlice S1 ![6] levels slices_S7_S1_6) shapeCasts_S1_S_)

/-- The interpolated values before the last sort. -/
def values : FVec Ideal S8192x96x32 .f32 :=
  select (along (cmpf .oge q last))
    (broadcastInDim S8192x96x32 ![0, 1, 2] bcast_S8192x96x1_S8192x96x32_0_1_2
      (extractStridedSlice S8192x96x1 ![0, 0, 6] s slices_S8192x96x7_S8192x96x1_0_0_6))
    (select (along (cmpf .ole q first))
      (broadcastInDim S8192x96x32 ![0, 1, 2] bcast_S8192x96x1_S8192x96x32_0_1_2
        (extractStridedSlice S8192x96x1 ![0, 0, 0] s slices_S8192x96x7_S8192x96x1_0_0_0))
      (line q s))

/-- The reference's result. -/
def result : FVec Ideal S8192x96x32 .f32 :=
  Host.sort S8192x96x32 2 comparator_f32_d2
    (values q (Host.sort S8192x96x7 2 comparator_f32_d2 (heads x0 x2 x3 x4 x5 x6 x7 x8 x9)))

set_option maxRecDepth 8192 in
/-- The array the reference program leaves is that result of its ten arguments. -/
theorem res_eq (m : (ℓ : Loc nD τ sig) → Buf (Elt Ideal) ℓ) (c : Dev nD) :
    Value.res_main_v78 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  unfold Value.res_main_v78
  rfl

end Cert.Ref

end
-- ==== Proof.RefHeads.lean ====
/-
  THE REFERENCE'S HEADS. At every entry the reference's array of heads holds the same finite sums as the kernel's block; only the factors
  of the second and the third layer stand the other way round.
-/
module

public import proofs.«01_k».proof.Proof.RefOps
public import proofs.«01_k».proof.Proof.Heads

@[expose] public section

noncomputable section

namespace Cert.Ref

open Idealize.ShloMosaic Cert.ReferenceIdeal Cert.ReferenceIdeal.Gen Cert.Heads

variable (x0 : FVec Ideal S8192x512 .f32) (q : FVec Ideal S8192x32 .f32) (x2 : FVec Ideal S512x512 .f32) (x3 : FVec Ideal S512 .f32)
  (x4 : FVec Ideal S7x512x256 .f32) (x5 : FVec Ideal S7x256 .f32) (x6 : FVec Ideal S7x256x128 .f32) (x7 : FVec Ideal S7x128 .f32)
  (x8 : FVec Ideal S7x128x96 .f32) (x9 : FVec Ideal S7x96 .f32) (b : Fin 8192) (j : Fin 7) (h : Fin 96)

/-- The features at one entry. -/
theorem feats_at (d : Fin 512) :
    feats x0 x2 x3 (ix2 b d) = lin (fun k => x0 (ix2 b k)) (fun k d => x2 (ix2 k d)) (fun d => x3 (ix1 d)) d := by
  pointwise [feats]
  rfl

/-- The first layer at one entry. -/
theorem layer1_at (f : FVec Ideal S8192x512 .f32) (k : Fin 256) : layer1 x4 x5 f (ix3 b j k)
    = relu (lin (fun d => f (ix2 b d)) (fun d k => x4 (ix3 j d k)) (fun k => x5 (ix2 j k))) k := by
  pointwise [layer1]
  rfl

/-- The second layer at one entry. -/
theorem layer2_at (a : FVec Ideal S8192x7x256 .f32) (m : Fin 128) : layer2 x6 x7 a (ix3 b j m)
    = relu (lin (fun k => a (ix3 b j k)) (fun k m => x6 (ix3 j k m)) (fun m => x7 (ix2 j m))) m := by
  pointwise [layer2]
  unfold relu lin
  simp only [mul_comm]

/-- The third layer at one entry. -/
theorem layer3_at (a : FVec Ideal S8192x7x128 .f32) : layer3 x8 x9 a (ix3 b h j)
    = lin (fun m => a (ix3 b j m)) (fun m h => x8 (ix3 j m h)) (fun h => x9 (ix2 j h)) h := by
  pointwise [layer3]
  unfold lin
  simp only [mul_comm]

/-- The head `j` of the batch row `b`, from the whole arrays. -/
def rowHead : EReal :=
  head (lin (fun k => x0 (ix2 b k)) (fun k d => x2 (ix2 k d)) (fun d => x3 (ix1 d))) (fun d k => x4 (ix3 j d k))
    (fun k => x5 (ix2 j k)) (fun k m => x6 (ix3 j k m)) (fun m => x7 (ix2 j m)) (fun m h => x8 (ix3 j m h)) (fun h => x9 (ix2 j h)) h

/-- The heads at one entry. -/
theorem heads_at : heads x0 x2 x3 x4 x5 x6 x7 x8 x9 (ix3 b h j) = rowHead x0 x2 x3 x4 x5 x6 x7 x8 x9 b j h := by
  unfold heads
  rw [layer3_at]
  simp only [layer2_at, layer1_at, feats_at]
  rfl

end Cert.Ref

end
-- ==== Proof.KernelValue.lean ====
/-
  THE KERNEL'S RESULT. The array the kernel leaves is made of 128 blocks of 64 batch rows. So along the query axis it is a sorting of the
  interpolated values, now in terms of the whole argument arrays.
-/
module

public import proofs.«01_k».proof.Proof.BlockValue
public import proofs.«01_k».proof.Proof.RefHeads
public import proofs.«01_k».proof.Proof.Gen.KernelIdeal.Value
public import Idealize.ShloMosaic.Lib.Pipeline.ValueKit

@[expose] public section

noncomputable section

namespace Cert.KernelValue

open Idealize.ShloMosaic Idealize.ShloMosaic.TcCoe Cert.KernelIdeal Cert.KernelIdeal.Gen Cert.SortFiber Cert.Heads

variable (m : (ℓ : Loc nD τ sig) → Buf (Elt Ideal) ℓ) (c : Dev nD) (T : Fin cfg0.N)

/-- The batch row `64 T + r`. -/
def row (r : Fin 64) : Fin 8192 := ⟨T.val * 64 + r.val, by
  have h1 : T.val < 128 := T.isLt
  have h2 := r.isLt
  omega⟩

/-- The window of the features' operand moves down by one block a point. -/
theorem index0 : ∀ T : Fin cfg0.N, win0_0.index T = ![T.val, 0] := by
  decide +kernel

/-- The window of the queries moves down by one block a point. -/
theorem index1 : ∀ T : Fin cfg0.N, win0_1.index T = ![T.val, 0] := by
  decide +kernel

/-- The window of the result moves down by one block a point. -/
theorem index10 : ∀ T : Fin cfg0.N, win0_10.index T = ![T.val, 0, 0] := by
  decide +kernel

/-- A block of the features' operand. -/
theorem iblk0_at (r : Fin 64) (k : Fin 512) : iblk m c 0 T (ix2 r k) = m ((c : Thread nD τ).loc main_arg0) (ix2 (row T r) k) := by
  refine Eq.trans (b := V m c main_arg0 (ix2 (row T r) k)) ?_ (congrFun (V_main_arg0 m c) _)
  show V m c main_arg0 (((cfg0.win 0).blk T).view.emb (ix2 r k)) = _
  refine congrArg (V m c main_arg0) (funext fun a => Fin.ext ?_)
  blk_simp
  rw [index0]
  fin_cases a
  · rfl
  · exact Eq.trans (congrArg (· + k.val) (Nat.zero_mul _)) (Nat.zero_add _)

/-- A block of the queries. -/
theorem iblk1_at (r : Fin 64) (t : Fin 32) : iblk m c 1 T (ix2 r t) = m ((c : Thread nD τ).loc main_arg1) (ix2 (row T r) t) := by
  refine Eq.trans (b := V m c main_arg1 (ix2 (row T r) t)) ?_ (congrFun (V_main_arg1 m c) _)
  show V m c main_arg1 (((cfg0.win 1).blk T).view.emb (ix2 r t)) = _
  refine congrArg (V m c main_arg1) (funext fun a => Fin.ext ?_)
  blk_simp
  rw [index1]
  fin_cases a
  · rfl
  · exact Eq.trans (congrArg (· + t.val) (Nat.zero_mul _)) (Nat.zero_add _)

/-- A window that never moves and starts at the array's first entry adds nothing to an entry's place. -/
theorem place_zero {i n x : Nat} (h : i = 0) : i * n + x = x := by
  rw [h, Nat.zero_mul, Nat.zero_add]

/-- Every block of the features' weights is the whole array. -/
theorem iblk2_eq : iblk m c 2 T = m ((c : Thread nD τ).loc main_arg2) := by
  refine Eq.trans (funext fun x => congrArg (V m c main_arg2) (funext fun a => Fin.ext ?_)) (V_main_arg2 m c)
  blk_simp
  exact place_zero (by fin_cases a <;> rfl)

/-- Every block of the first layer's weights is the whole array. -/
theorem iblk4_eq : iblk m c 4 T = m ((c : Thread nD τ).loc main_arg4) := by
  refine Eq.trans (funext fun x => congrArg (V m c main_arg4) (funext fun a => Fin.ext ?_)) (V_main_arg4 m c)
  blk_simp
  exact place_zero (by fin_cases a <;> rfl)

/-- Every block of the first layer's bias is the whole array. -/
theorem iblk5_eq : iblk m c 5 T = m ((c : Thread nD τ).loc main_arg5) := by
  refine Eq.trans (funext fun x => congrArg (V m c main_arg5) (funext fun a => Fin.ext ?_)) (V_main_arg5 m c)
  blk_simp
  exact place_zero (by fin_cases a <;> rfl)

/-- Every block of the second layer's weights is the whole array. -/
theorem iblk6_eq : iblk m c 6 T = m ((c : Thread nD τ).loc main_arg6) := by
  refine Eq.trans (funext fun x => congrArg (V m c main_arg6) (funext fun a => Fin.ext ?_)) (V_main_arg6 m c)
  blk_simp
  exact place_zero (by fin_cases a <;> rfl)

/-- Every block of the second layer's bias is the whole array. -/
theorem iblk7_eq : iblk m c 7 T = m ((c : Thread nD τ).loc main_arg7) := by
  refine Eq.trans (funext fun x => congrArg (V m c main_arg7) (funext fun a => Fin.ext ?_)) (V_main_arg7 m c)
  blk_simp
  exact place_zero (by fin_cases a <;> rfl)

/-- Every block of the third layer's weights is the whole array. -/
theorem iblk8_eq : iblk m c 8 T = m ((c : Thread nD τ).loc main_arg8) := by
  refine Eq.trans (funext fun x => congrArg (V m c main_arg8) (funext fun a => Fin.ext ?_)) (V_main_arg8 m c)
  blk_simp
  exact place_zero (by fin_cases a <;> rfl)

/-- Every block of the third layer's bias is the whole array. -/
theorem iblk9_eq : iblk m c 9 T = m ((c : Thread nD τ).loc main_arg9) := by
  refine Eq.trans (funext fun x => congrArg (V m c main_arg9) (funext fun a => Fin.ext ?_)) (V_main_arg9 m c)
  blk_simp
  exact place_zero (by fin_cases a <;> rfl)

/-- Every block of the features' bias is the whole array, laid out as one row. -/
theorem iblk3_at (d : Fin 512) : iblk m c 3 T (ix2 0 d) = m ((c : Thread nD τ).loc main_arg3) (ix1 d) := by
  have e : iblk m c 3 T = V m c main_v0 := by
    refine funext fun x => congrArg (V m c main_v0) (funext fun a => Fin.ext ?_)
    blk_simp
    exact place_zero (by fin_cases a <;> rfl)
  have v : V m c main_v0 = shapeCast S1x512 (m ((c : Thread nD τ).loc main_arg3)) shapeCasts_S512_S1x512 := by
    unfold_abbrev_sides
    after_results
    rfl
  refine Eq.trans (congrFun (e.trans v) (ix2 0 d)) ?_
  generalize m ((c : Thread nD τ).loc main_arg3) = x
  pointwise

/-- The result's array at the entry of the block `T`. -/
theorem arr_at (r : Fin 64) (h : Fin 96) (t : Fin 32) : (dats m 0 c).arrAt 10 cfg0.N (ix3 (row T r) h t)
    = out0_10 (iblk m c 0 T) (iblk m c 1 T) (iblk m c 2 T) (iblk m c 3 T) (iblk m c 4 T) (iblk m c 5 T) (iblk m c 6 T) (iblk m c 7 T)
        (iblk m c 8 T) (iblk m c 9 T) (ix3 r h t) := by
  have e := congrFun ((Value.blocks10 m c T (flush0_10 T)).trans (Value.flushed10 m c T)) (ix3 r h t)
  have p : ((cfg0.win 10).blk T).view.emb (ix3 r h t) = ix3 (row T r) h t := by
    refine funext fun a => Fin.ext ?_
    blk_simp
    rw [index10]
    fin_cases a
    · rfl
    · exact place_zero rfl
    · exact place_zero rfl
  rw [← p]
  exact e

/-- A head of the block `T` is the head of its batch row. -/
theorem head_at (r : Fin 64) (h : Fin 96) (j : Fin 7) :
    blockHead (iblk m c 0 T) (iblk m c 2 T) (iblk m c 3 T) (iblk m c 4 T) (iblk m c 5 T) (iblk m c 6 T) (iblk m c 7 T) (iblk m c 8 T)
        (iblk m c 9 T) r h j
      = Ref.rowHead (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (row T r) j h := by
  unfold blockHead Ref.rowHead
  rw [iblk2_eq, iblk4_eq, iblk5_eq, iblk6_eq, iblk7_eq, iblk8_eq, iblk9_eq]
  simp only [iblk0_at, iblk3_at]

/-- Along the query axis the kernel's result is a sorting of the interpolated values, for some sorting of the seven heads. -/
theorem arr_isSortOf (b : Fin 8192) (h : Fin 96) : ∃ s : Fin 7 → EReal,
    IsSortOf s (fun j => Ref.rowHead (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) b j h)
    ∧ IsSortOf (α := EReal) (fun t : Fin 32 => (dats m 0 c).arrAt 10 cfg0.N (ix3 b h t))
      (fun t => Interp.interp s (m ((c : Thread nD τ).loc main_arg1) (ix2 b t))) := by
  obtain ⟨T, r, rfl⟩ : ∃ (T : Fin cfg0.N) (r : Fin 64), b = row T r := by
    have hb := b.isLt
    exact ⟨⟨b.val / 64, show b.val / 64 < 128 by omega⟩, ⟨b.val % 64, by omega⟩, Fin.ext (by unfold row; dsimp only; omega)⟩
  have e := BlockValue.blockSorted_isSortOf (iblk m c 0 T) (iblk m c 1 T) (iblk m c 2 T) (iblk m c 3 T) (iblk m c 4 T) (iblk m c 5 T)
    (iblk m c 6 T) (iblk m c 7 T) (iblk m c 8 T) (iblk m c 9 T) r h
  simp only [head_at] at e
  refine ⟨_, e, ?_⟩
  have o := BlockValue.out_isSortOf (iblk m c 0 T) (iblk m c 1 T) (iblk m c 2 T) (iblk m c 3 T) (iblk m c 4 T) (iblk m c 5 T)
    (iblk m c 6 T) (iblk m c 7 T) (iblk m c 8 T) (iblk m c 9 T) r h
  simp only [iblk1_at] at o
  simp only [arr_at]
  exact o

end Cert.KernelValue

end
-- ==== Proof.RefSort.lean ====
/-
  THE REFERENCE'S SORTS. The host's comparison is "strictly less", so a host sort leaves on every fibre the ascending rearrangement.
-/
module

public import proofs.«01_k».proof.Proof.RefOps
public import proofs.«01_k».proof.Proof.SortFiber
public import Idealize.ShloMosaic.Lib.Pointwise

@[expose] public section

noncomputable section

namespace Cert.Ref

open Idealize.ShloMosaic Cert.ReferenceIdeal Cert.ReferenceIdeal.Gen Cert.SortFiber

/-- The host's comparison is "strictly less". -/
theorem comparator_eq (l r : EReal) : comparator_f32_d2 (F := Ideal) l r = BitVec.ofBool (decide (l < r)) := by
  have z : ∀ x : EReal, Scalar.select (Ideal.cmp .oeq x (0 : EReal)) (0 : EReal) x = x := by
    intro x
    unfold Scalar.select Ideal.cmp
    by_cases hx : x = 0 <;> simp [hx]
  have u : ∀ x y : EReal, Scalar.select (Ideal.cmp .une x x) y x = x := by
    intro x y
    unfold Scalar.select Ideal.cmp
    simp
  show FloatOps.cmpfTotal (F := Ideal) (φ := .f32) .lt _ _ = _
  simp only [Ideal.cmpf_def, Ideal.cmpfTotal_def, Ideal.ofBits_def, Ideal.ofBits_zero_f32, z, u]
  rfl

/-- A sorted fibre read through two equal descriptions of the fibre. -/
theorem sorted_congr {n : Nat} {ι : Type} (x : ι → EReal) (f g : Fin n → ι) (e : f = g) (t : Fin n) :
    x (f (sortedFrom (fun k k' => comparator_f32_d2 (F := Ideal) (x (f k)) (x (f k')) == 1#1) t))
      = x (g (sortedFrom (fun k k' => comparator_f32_d2 (F := Ideal) (x (g k)) (x (g k')) == 1#1) t)) := by
  subst e
  rfl

/-- A host sort along the last axis of seven. -/
theorem sort7_at (x : FVec Ideal S8192x96x7 .f32) (b : Fin 8192) (h : Fin 96) :
    IsSortOf (fun t => Host.sort S8192x96x7 2 comparator_f32_d2 x (ix3 b h t)) (fun t => x (ix3 b h t)) := by
  have al : ∀ t k : Fin 7, (ix3 b h t : S8192x96x7.Idx).along (2 : Fin 3) k = ix3 b h k := by
    intro t k
    funext a
    fin_cases a <;> rfl
  have e := isSortOf_sortedFrom (fun t : Fin 7 => x (ix3 b h t))
    (fun k k' => comparator_f32_d2 (F := Ideal) (x (ix3 b h k)) (x (ix3 b h k')) == 1#1) (fun k k' => by
      rw [comparator_eq]
      by_cases hk : x (ix3 b h k) < x (ix3 b h k') <;> simp [hk])
  refine Eq.mp (congrArg (fun v => IsSortOf v _) ?_) e
  funext t
  unfold Host.sort
  rw [dif_pos (by decide : 2 < S8192x96x7.rank)]
  show _ = x ((ix3 b h t : S8192x96x7.Idx).along (2 : Fin 3) (sortedFrom (fun k k' => comparator_f32_d2 (F := Ideal)
    (x ((ix3 b h t : S8192x96x7.Idx).along (2 : Fin 3) k)) (x ((ix3 b h t : S8192x96x7.Idx).along (2 : Fin 3) k')) == 1#1) t))
  exact sorted_congr x (fun k => ix3 b h k) _ (funext fun k => (al t k).symm) t

/-- A host sort along the last axis of thirty-two. -/
theorem sort32_at (x : FVec Ideal S8192x96x32 .f32) (b : Fin 8192) (h : Fin 96) :
    IsSortOf (fun t => Host.sort S8192x96x32 2 comparator_f32_d2 x (ix3 b h t)) (fun t => x (ix3 b h t)) := by
  have al : ∀ t k : Fin 32, (ix3 b h t : S8192x96x32.Idx).along (2 : Fin 3) k = ix3 b h k := by
    intro t k
    funext a
    fin_cases a <;> rfl
  have e := isSortOf_sortedFrom (fun t : Fin 32 => x (ix3 b h t))
    (fun k k' => comparator_f32_d2 (F := Ideal) (x (ix3 b h k)) (x (ix3 b h k')) == 1#1) (fun k k' => by
      rw [comparator_eq]
      by_cases hk : x (ix3 b h k) < x (ix3 b h k') <;> simp [hk])
  refine Eq.mp (congrArg (fun v => IsSortOf v _) ?_) e
  funext t
  unfold Host.sort
  rw [dif_pos (by decide : 2 < S8192x96x32.rank)]
  show _ = x ((ix3 b h t : S8192x96x32.Idx).along (2 : Fin 3) (sortedFrom (fun k k' => comparator_f32_d2 (F := Ideal)
    (x ((ix3 b h t : S8192x96x32.Idx).along (2 : Fin 3) k)) (x ((ix3 b h t : S8192x96x32.Idx).along (2 : Fin 3) k')) == 1#1) t))
  exact sorted_congr x (fun k => ix3 b h k) _ (funext fun k => (al t k).symm) t

end Cert.Ref

end
-- ==== Proof.RefIndex.lean ====
/-
  THE REFERENCE'S NEIGHBOURS. In the zone `z` of a query the reference's two positions are the words `z` and `z + 1`, and its reads at
  these positions give the two neighbouring levels and the two neighbouring heads.
-/
module

public import proofs.«01_k».proof.Proof.RefOps
public import proofs.«01_k».proof.Proof.Zone
public import Idealize.ShloMosaic.Lib.Pointwise
public import Idealize.ShloMosaic.Lib.ValueIdxCore

@[expose] public section

noncomputable section

namespace Cert.Ref

open Idealize.ShloMosaic Cert.ReferenceIdeal Cert.ReferenceIdeal.Gen Cert.Interp

variable (q : FVec Ideal S8192x32 .f32) (k : IVec S8192x32 32) (s : FVec Ideal S8192x96x7 .f32) (b : Fin 8192) (h : Fin 96) (t : Fin 32)

/-- A level of the reference is the level of the same number. -/
theorem levels_at (j : Fin 7) : levels (ix1 j) = level j := by
  have e : S7.rowMajor (ix1 j) = j := by
    fin_cases j <;> rfl
  unfold levels
  rw [e]
  fin_cases j <;> rfl

/-- One bit of the count: whether the level `j` lies below `x`. -/
def bit (j : Fin 7) (x : EReal) : BitVec 32 := if level j < x then 1#32 else 0#32

/-- The count of the levels below a query. -/
theorem count_at : count q (ix2 b t) = bit 0 (q (ix2 b t)) + (bit 1 (q (ix2 b t)) + (bit 2 (q (ix2 b t)) + (bit 3 (q (ix2 b t))
    + (bit 4 (q (ix2 b t)) + (bit 5 (q (ix2 b t)) + (bit 6 (q (ix2 b t)) + 0#32)))))) := by
  have e : ∀ j x, BitVec.setWidth 32 (BitVec.ofBool (decide (levels (ix1 j) < x))) = bit j x := by
    intro j x
    unfold bit
    rw [levels_at]
    by_cases hx : level j < x <;> simp [hx]
  unfold count
  pointwise
  show Finset.fold IntOp.addi 0#32 (fun x : Fin 7 => BitVec.setWidth 32 (BitVec.ofBool (decide (levels (ix1 x) < q (ix2 b t)))))
    Finset.univ = _
  simp only [e]
  rfl

variable {z : Fin 6}

/-- In its zone a query has the upper neighbour `z + 1`. -/
theorem hi_at (hz : InZone z (q (ix2 b t))) : hi q (ix2 b t) = BitVec.ofNat 32 (z.val + 1) := by
  have e0 : z = 0 ∨ bit 0 (q (ix2 b t)) = 1#32 := by
    by_cases h0 : z = 0
    · exact Or.inl h0
    · refine Or.inr (if_pos (lt_of_le_of_lt ?_ (hz.1.resolve_left h0)))
      exact level_strictMono.monotone (Fin.zero_le _)
  have e6 : z = 5 ∨ bit 6 (q (ix2 b t)) = 0#32 := by
    by_cases h6 : z = 5
    · exact Or.inl h6
    · refine Or.inr (if_neg (not_lt.mpr (le_trans (hz.2.resolve_left h6) ?_)))
      exact level_strictMono.monotone (Fin.le_last _)
  have e : ∀ j : Fin 7, j ≠ 0 → j ≠ 6 → bit j (q (ix2 b t)) = if j ≤ z.castSucc then 1#32 else 0#32 := by
    intro j h0 h6
    unfold bit
    simp only [hz.lt_iff h0 h6]
  have c0 : bit 0 (q (ix2 b t)) = 0#32 ∨ bit 0 (q (ix2 b t)) = 1#32 := by
    unfold bit
    split <;> simp
  have c6 : bit 6 (q (ix2 b t)) = 0#32 ∨ bit 6 (q (ix2 b t)) = 1#32 := by
    unfold bit
    split <;> simp
  have w : hi q (ix2 b t) = IntOp.minsi 6#32 (IntOp.maxsi 1#32 (count q (ix2 b t))) := rfl
  rw [w, count_at, e 1 (by decide) (by decide), e 2 (by decide) (by decide), e 3 (by decide) (by decide), e 4 (by decide) (by decide),
    e 5 (by decide) (by decide)]
  clear e w hz
  rcases c0 with c0 | c0 <;> rcases c6 with c6 | c6 <;> rw [c0] at e0 <;> rw [c6] at e6 <;> rw [c0, c6] <;>
    clear c0 c6 <;> revert z <;> decide

/-- In its zone a query has the lower neighbour `z`. -/
theorem lo_at (hz : InZone z (q (ix2 b t))) : lo q (ix2 b t) = BitVec.ofNat 32 z.val := by
  have w : lo q (ix2 b t) = hi q (ix2 b t) - 1#32 := rfl
  rw [w, hi_at q b t hz]
  clear w hz
  revert z
  decide

/-- A word with a negative position counted from the end. -/
def wrap (w : BitVec 32) : BitVec 32 := Scalar.select (IntOp.cmpi .slt w 0#32) (IntOp.addi w 7#32) w

/-- A position below seven stays. -/
theorem wrap_ofNat (j : Fin 7) : wrap (BitVec.ofNat 32 j.val) = BitVec.ofNat 32 j.val := by
  revert j
  decide

/-- A position below seven read as a signed number and cut to the row. -/
theorem clamp_ofNat (j : Fin 7) : min (BitVec.ofNat 32 j.val).toInt.toNat (7 - 1) = j.val := by
  revert j
  decide

/-- The read of the seven levels at one position for each query. -/
theorem gather7_at (x : FVec Ideal S7 .f32) (p : IVec S8192x32x1 32) (j : Fin 7) (hp : p (ix3 b t 0) = BitVec.ofNat 32 j.val) :
    Host.gather gather_S7_S8192x32x1_S8192x32_n_0_n_n_0_2_1 x p (ix2 b t) = x (ix1 j) := by
  let d := gather_S7_S8192x32x1_S8192x32_n_0_n_n_0_2_1
  show x (d.operandIdx (ix2 b t) p) = _
  refine congrArg x ?_
  funext a
  refine Fin.ext ?_
  show d.start (ix2 b t) p a + d.batchCoord (ix2 b t) a + d.offCoord (ix2 b t) a = _
  obtain rfl : a = 0 := Subsingleton.elim _ _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ d.startIndexMap from List.mem_singleton.mpr rfl)]
  have hsi : d.siIdx (ix2 b t) ⟨List.idxOf (0 : Fin 1) d.startIndexMap,
      List.idxOf_lt_length_iff.2 (List.mem_singleton.mpr rfl)⟩ = ix3 b t 0 := by
    funext c
    refine Fin.ext ?_
    match c with
    | ⟨0, _⟩ => rfl
    | ⟨1, _⟩ => rfl
    | ⟨2, _⟩ => rfl
  rw [hsi, hp]
  exact clamp_ofNat j

/-- A level read at a position below seven. -/
theorem levelAt_at (j : Fin 7) (hk : k (ix2 b t) = BitVec.ofNat 32 j.val) : levelAt k (ix2 b t) = level j := by
  unfold levelAt
  rw [← levels_at j]
  refine gather7_at b t levels _ j ?_
  rw [← wrap_ofNat j, ← hk]
  pointwise
  rfl

/-- A position at which the sorted heads are read. -/
theorem places_at (j : Fin 7) (hk : k (ix2 b t) = BitVec.ofNat 32 j.val) : places k (ix3 b t 0) = BitVec.ofNat 32 j.val := by
  have ew : places k (ix3 b t 0) = wrap (k (ix2 b t)) := by
    unfold places
    pointwise
    rfl
  rw [ew, hk, wrap_ofNat]

/-- A position below seven lies in the row. -/
theorem inside_at (p : IVec S8192x32x1 32) (j : Fin 7) (hp : p (ix3 b t 0) = BitVec.ofNat 32 j.val) : inside p (ix2 b t) = 1#1 := by
  have e : inside p (ix2 b t) = IntOp.andi (IntOp.andi (IntOp.cmpi .sge (p (ix3 b t 0)) 0#32) (IntOp.cmpi .sle (p (ix3 b t 0)) 6#32)) 1#1 := by
    unfold inside
    pointwise
    rfl
  rw [e, hp]
  clear e hp
  revert j
  decide

/-- The read of a row of seven at one position for each query. -/
theorem gather_at (p : IVec S8192x32x1 32) (j : Fin 7) (hp : p (ix3 b t 0) = BitVec.ofNat 32 j.val) :
    Host.gather gather_S8192x96x7_S8192x32x1_S8192x96x32_1_2_0_0_2_2_1961 s p (ix3 b h t) = s (ix3 b h j) := by
  let d := gather_S8192x96x7_S8192x32x1_S8192x96x32_1_2_0_0_2_2_1961
  show s (d.operandIdx (ix3 b h t) p) = _
  refine congrArg s ?_
  funext a
  refine Fin.ext ?_
  show d.start (ix3 b h t) p a + d.batchCoord (ix3 b h t) a + d.offCoord (ix3 b h t) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => by simp [d, gather_S8192x96x7_S8192x32x1_S8192x96x32_1_2_0_0_2_2_1961] at h)]
    unfold GatherDims.start GatherDims.offCoord
    rw [dif_neg (show (1 : Fin 3) ∉ d.startIndexMap from by decide), dif_pos (show (1 : Fin 3) ∈ d.sKept from by decide)]
    simp only [Nat.zero_add]
    rfl
  · rw [GatherDims.batchCoord_eq_zero _ _ _ (fun h => by simp [d, gather_S8192x96x7_S8192x32x1_S8192x96x32_1_2_0_0_2_2_1961] at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ d.startIndexMap from List.mem_singleton.mpr rfl)]
    have hsi : d.siIdx (ix3 b h t) ⟨List.idxOf (2 : Fin 3) d.startIndexMap,
        List.idxOf_lt_length_iff.2 (List.mem_singleton.mpr rfl)⟩ = ix3 b t 0 := by
      funext c
      refine Fin.ext ?_
      match c with
      | ⟨0, _⟩ => rfl
      | ⟨1, _⟩ => rfl
      | ⟨2, _⟩ => rfl
    rw [hsi, hp]
    exact clamp_ofNat j

end Cert.Ref

end
-- ==== Proof.RefValue.lean ====
/-
  THE REFERENCE'S RESULT. Before its last sort the reference holds at every entry the interpolation of the sorted heads at the query; so
  along the query axis its result is a sorting of the interpolated values.
-/
module

public import proofs.«01_k».proof.Proof.RefHeads
public import proofs.«01_k».proof.Proof.RefSort
public import proofs.«01_k».proof.Proof.RefIndex

@[expose] public section

noncomputable section

namespace Cert.Ref

open Idealize.ShloMosaic Cert.ReferenceIdeal Cert.ReferenceIdeal.Gen Cert.SortFiber

section one

variable (q : FVec Ideal S8192x32 .f32) (k : IVec S8192x32 32) (s : FVec Ideal S8192x96x7 .f32) (b : Fin 8192) (h : Fin 96) (t : Fin 32)

/-- A sorted head read at a position below seven. -/
theorem taken_at (j : Fin 7) (hk : k (ix2 b t) = BitVec.ofNat 32 j.val) : taken k s (ix3 b h t) = s (ix3 b h j) := by
  have hp := places_at k b t j hk
  have e : taken k s (ix3 b h t) = Scalar.select (inside (places k) (ix2 b t))
      (Host.gather gather_S8192x96x7_S8192x32x1_S8192x96x32_1_2_0_0_2_2_1961 s (places k) (ix3 b h t))
      (FloatOps.ofBits .f32 0x7FC00000#32) := by
    unfold taken
    generalize inside (places k) = i
    generalize Host.gather gather_S8192x96x7_S8192x32x1_S8192x96x32_1_2_0_0_2_2_1961 s (places k) = g
    pointwise
  rw [e, inside_at b t _ j hp, gather_at s b h t _ j hp]
  rfl

/-- An array over the queries repeated along the horizon, at one entry. -/
theorem along_at {α : Type} (w : S8192x32.Idx → α) : along w (ix3 b h t) = w (ix2 b t) := by
  unfold along
  pointwise

/-- The first level. -/
theorem first_at : first (ix2 b t) = Interp.level 0 := by
  rw [← levels_at]
  unfold first
  generalize levels = l
  pointwise

/-- The last level. -/
theorem last_at : last (ix2 b t) = Interp.level 6 := by
  rw [← levels_at]
  unfold last
  generalize levels = l
  pointwise

/-- A constant repeated over the queries, at one entry. -/
theorem splat_at (w : BitVec 32) :
    broadcastInDim S8192x32 ![] bcast_S_S8192x32 (constant (F := Ideal) S_ .f32 w) (ix2 b t) = Ideal.ofBits .f32 w := by
  rfl

/-- The weights from the levels at the neighbours, at one entry. -/
theorem weight_entry (l u e : FVec Ideal S8192x32 .f32) :
    Host.divf (subf q l) (addf (subf u l) e) (ix2 b t)
      = Ideal.div (q (ix2 b t) - l (ix2 b t)) (u (ix2 b t) - l (ix2 b t) + e (ix2 b t)) := by
  rfl

/-- The weight in the zone of a query. -/
theorem weights_at {z : Fin 6} (hz : Interp.InZone z (q (ix2 b t))) :
    weights q (ix2 b t) = Interp.weight (Interp.level z.castSucc) (Interp.level z.succ) (q (ix2 b t)) := by
  have hl : lo q (ix2 b t) = BitVec.ofNat 32 z.castSucc.val := lo_at q b t hz
  have hh : hi q (ix2 b t) = BitVec.ofNat 32 z.succ.val := by
    rw [Fin.val_succ]
    exact hi_at q b t hz
  have e : weights q (ix2 b t) = Interp.weight (levelAt (lo q) (ix2 b t)) (levelAt (hi q) (ix2 b t)) (q (ix2 b t)) := by
    unfold weights Interp.weight Interp.eps
    rw [weight_entry, splat_at]
  rw [e, levelAt_at (lo q) b t z.castSucc hl, levelAt_at (hi q) b t z.succ hh]

/-- A difference at one entry. -/
theorem sub_entry (u v : FVec Ideal S8192x32 .f32) : subf u v (ix2 b t) = u (ix2 b t) - v (ix2 b t) := by
  rfl

/-- A sum of two products at one entry. -/
theorem mix_entry (u x v y : FVec Ideal S8192x96x32 .f32) : addf (mulf u x) (mulf v y) (ix3 b h t)
    = u (ix3 b h t) * x (ix3 b h t) + v (ix3 b h t) * y (ix3 b h t) := by
  rfl

/-- The line between the two heads read, at one entry. -/
theorem line_entry : line q s (ix3 b h t)
    = Interp.mix (weights q (ix2 b t)) (taken (lo q) s (ix3 b h t)) (taken (hi q) s (ix3 b h t)) := by
  unfold line Interp.mix
  rw [mix_entry, along_at, along_at, sub_entry, splat_at, Ideal.ofBits_one_f32]

/-- The line between the neighbours in the zone of a query. -/
theorem line_at {z : Fin 6} (hz : Interp.InZone z (q (ix2 b t))) :
    line q s (ix3 b h t) = Interp.piece (fun j => s (ix3 b h j)) z (q (ix2 b t)) := by
  have hh : hi q (ix2 b t) = BitVec.ofNat 32 z.succ.val := by
    rw [Fin.val_succ]
    exact hi_at q b t hz
  rw [line_entry, weights_at q b t hz, taken_at (lo q) s b h t z.castSucc (lo_at q b t hz), taken_at (hi q) s b h t z.succ hh]
  rfl

/-- The value before the last sort. -/
theorem values_at : values q s (ix3 b h t) = Interp.interp (fun j => s (ix3 b h j)) (q (ix2 b t)) := by
  obtain ⟨z, hz⟩ := Interp.exists_zone (q (ix2 b t))
  have e : values q s (ix3 b h t) = Scalar.select (Ideal.cmp .oge (q (ix2 b t)) (Interp.level 6)) (s (ix3 b h 6))
      (Scalar.select (Ideal.cmp .ole (q (ix2 b t)) (Interp.level 0)) (s (ix3 b h 0)) (line q s (ix3 b h t))) := by
    rw [← first_at b t, ← last_at b t]
    unfold values along
    generalize line q s = l
    generalize first = f
    generalize last = g
    pointwise
  rw [e, line_at q s b h t hz, hz.interp_eq]
  have hl : Interp.level 0 < Interp.level 6 := Interp.level_strictMono (by decide)
  unfold Scalar.select Ideal.cmp
  by_cases h6 : Interp.level 6 ≤ q (ix2 b t)
  · have h0 : ¬ q (ix2 b t) ≤ Interp.level 0 := not_le.mpr (lt_of_lt_of_le hl h6)
    simp [h6, h0]
  · by_cases h0 : q (ix2 b t) ≤ Interp.level 0 <;> simp [h6, h0]

end one

variable (x0 : FVec Ideal S8192x512 .f32) (q : FVec Ideal S8192x32 .f32) (x2 : FVec Ideal S512x512 .f32) (x3 : FVec Ideal S512 .f32)
  (x4 : FVec Ideal S7x512x256 .f32) (x5 : FVec Ideal S7x256 .f32) (x6 : FVec Ideal S7x256x128 .f32) (x7 : FVec Ideal S7x128 .f32)
  (x8 : FVec Ideal S7x128x96 .f32) (x9 : FVec Ideal S7x96 .f32) (b : Fin 8192) (h : Fin 96)

/-- Along the query axis the result is a sorting of the interpolated values, for any sorting `s` of the seven heads. -/
theorem result_isSortOf (s : Fin 7 → EReal) (hs : IsSortOf s (fun j => rowHead x0 x2 x3 x4 x5 x6 x7 x8 x9 b j h)) :
    IsSortOf (fun t => result x0 q x2 x3 x4 x5 x6 x7 x8 x9 (ix3 b h t)) (fun t => Interp.interp s (q (ix2 b t))) := by
  have e := sort32_at (values q (Host.sort S8192x96x7 2 comparator_f32_d2 (heads x0 x2 x3 x4 x5 x6 x7 x8 x9))) b h
  have e7 := sort7_at (heads x0 x2 x3 x4 x5 x6 x7 x8 x9) b h
  simp only [heads_at] at e7
  have es := e7.unique hs
  simp only [values_at] at e
  rw [es] at e
  exact e

end Cert.Ref

end
-- ==== Proof.Equation.lean ====
/-
  THE EQUATION. From equal arguments the kernel and the reference leave the same array: on every fibre along the query axis both are the
  sorting of the same values.
-/
module

public import proofs.«01_k».proof.Proof.KernelValue
public import proofs.«01_k».proof.Proof.RefValue

@[expose] public section

noncomputable section

namespace Cert.Equation

open Idealize.ShloMosaic Idealize.ShloMosaic.TcCoe Cert.KernelIdeal Cert.KernelIdeal.Gen Cert.SortFiber

variable (m : (ℓ : Loc nD τ sig) → Buf (Elt Ideal) ℓ) (c : Dev nD)

/-- The array the kernel leaves is the reference's result of the same ten arguments. -/
theorem arr_eq : (dats m 0 c).arrAt 10 cfg0.N
    = Ref.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine funext fun i => ?_
  obtain ⟨b, h, t, rfl⟩ : ∃ (b : Fin 8192) (h : Fin 96) (t : Fin 32), i = ix3 b h t := ⟨i 0, i 1, i 2, eq_ix3 i⟩
  obtain ⟨s, hs, hk⟩ := KernelValue.arr_isSortOf m c b h
  exact congrFun (hk.unique (Ref.result_isSortOf _ _ _ _ _ _ _ _ _ _ b h s hs)) t

end Cert.Equation

end
-- ==== Proof.lean ====
/-
  THE CLAIM. The kernel and its ideal form run to the end and leave their arguments as they were; so does the reference; the ideal form
  is the kernel's own text; and from equal arguments, whatever they hold, the ideal form and the reference leave the same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Equation
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- Both programs run, and the arrays they leave are equal. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 10 Cert.KernelIdeal.cfg0.N, Cert.KernelIdeal.Value.run_blocks m g, ?_⟩
  refine (θ_run Cert.ReferenceIdeal.defs _ _).mono (fun r h c => ⟨?_, (h c).2⟩) (Cert.ReferenceIdeal.Value.run m' g')
  obtain ⟨e0, e1, e2, e3, e4, e5, e6, e7, e8, e9⟩ := hagree c
  refine (h c).1.trans ((Cert.Ref.res_eq m' c).trans (Eq.trans ?_ (Cert.Equation.arr_eq m c).symm))
  rw [e0, e1, e2, e3, e4, e5, e6, e7, e8, e9]

/-- The reference runs to the end and leaves its arguments as they were, every counter at zero. -/
theorem quiescent_reference : Cert.quiescent_ReferenceIdeal (hReferenceIdeal := Cert.ReferenceIdeal.Gen.facts) := by
  intro m g _
  exact (θ_run Cert.ReferenceIdeal.defs _ _).mono (fun r h => And.intro (fun c => (h c).2) (sem_eq_zero_of_no_sems (by decide) _))
    (Cert.ReferenceIdeal.Value.run m g)

/-- The whole claim. -/
theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, quiescent_reference, trivial, algebraic⟩

end Cert.Proof

end
